-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x12288 : Shape := ⟨3, ![2, 1024, 12288]⟩
abbrev S2x12288 : Shape := ⟨2, ![2, 12288]⟩
abbrev S2x5120 : Shape := ⟨2, ![2, 5120]⟩
abbrev S12288x2560 : Shape := ⟨2, ![12288, 2560]⟩
abbrev S5120 : Shape := ⟨1, ![5120]⟩
abbrev S2x1x12288 : Shape := ⟨3, ![2, 1, 12288]⟩
abbrev S2x1024x1 : Shape := ⟨3, ![2, 1024, 1]⟩
abbrev S1x64x12288 : Shape := ⟨3, ![1, 64, 12288]⟩
abbrev S1x1x12288 : Shape := ⟨3, ![1, 1, 12288]⟩
abbrev S1x64x1 : Shape := ⟨3, ![1, 64, 1]⟩
abbrev S64x12288 : Shape := ⟨2, ![64, 12288]⟩
abbrev S64 : Shape := ⟨1, ![64]⟩
abbrev S64x1 : Shape := ⟨2, ![64, 1]⟩
abbrev S1x12288 : Shape := ⟨2, ![1, 12288]⟩
abbrev S1x5120 : Shape := ⟨2, ![1, 5120]⟩
abbrev S2x1x5120 : Shape := ⟨3, ![2, 1, 5120]⟩
abbrev S2x1024x5120 : Shape := ⟨3, ![2, 1024, 5120]⟩
abbrev S1x512x12288 : Shape := ⟨3, ![1, 512, 12288]⟩
abbrev S12288x256 : Shape := ⟨2, ![12288, 256]⟩
abbrev S1x512x1 : Shape := ⟨3, ![1, 512, 1]⟩
abbrev S1x512 : Shape := ⟨2, ![1, 512]⟩
abbrev S1x1x512 : Shape := ⟨3, ![1, 1, 512]⟩
abbrev S1x512x512 : Shape := ⟨3, ![1, 512, 512]⟩
abbrev S512x256 : Shape := ⟨2, ![512, 256]⟩
abbrev S1x512x2048 : Shape := ⟨3, ![1, 512, 2048]⟩
abbrev S512x2048 : Shape := ⟨2, ![512, 2048]⟩
abbrev S2048x256 : Shape := ⟨2, ![2048, 256]⟩
abbrev S512x1 : Shape := ⟨2, ![512, 1]⟩
abbrev S512x128 : Shape := ⟨2, ![512, 128]⟩
abbrev S512x128x1 : Shape := ⟨3, ![512, 128, 1]⟩
abbrev S1x256 : Shape := ⟨2, ![1, 256]⟩
abbrev S1x1x256 : Shape := ⟨3, ![1, 1, 256]⟩
abbrev S1x512x256 : Shape := ⟨3, ![1, 512, 256]⟩
abbrev S2x1024 : Shape := ⟨2, ![2, 1024]⟩

abbrev nBuf : Space → Nat
  | .hbm => 16
  | .vmem => 26
  | .smem => 0
  | _ => 0

abbrev bufTy : (tb : Table) → Fin (tcTables nBuf tb) → BufTy
  | .hbm, ⟨0, _⟩ => ⟨S2x1024x12288, .bf16⟩
  | .hbm, ⟨1, _⟩ => ⟨S2x12288, .bf16⟩
  | .hbm, ⟨2, _⟩ => ⟨S2x12288, .bf16⟩
  | .hbm, ⟨3, _⟩ => ⟨S2x5120, .bf16⟩
  | .hbm, ⟨4, _⟩ => ⟨S12288x2560, .i8⟩
  | .hbm, ⟨5, _⟩ => ⟨S5120, .f32⟩
  | .hbm, ⟨6, _⟩ => ⟨S5120, .bf16⟩
  | .hbm, ⟨7, _⟩ => ⟨S2x1x12288, .bf16⟩
  | .hbm, ⟨8, _⟩ => ⟨S2x1x12288, .bf16⟩
  | .hbm, ⟨9, _⟩ => ⟨S2x1024x12288, .i8⟩
  | .hbm, ⟨10, _⟩ => ⟨S2x1024x1, .f32⟩
  | .hbm, ⟨11, _⟩ => ⟨S1x5120, .f32⟩
  | .hbm, ⟨12, _⟩ => ⟨S1x5120, .bf16⟩
  | .hbm, ⟨13, _⟩ => ⟨S2x1x5120, .bf16⟩
  | .hbm, ⟨14, _⟩ => ⟨S2x1024x5120, .bf16⟩
  | .hbm, ⟨15, _⟩ => ⟨S2x1024, .f32⟩
  | .local _ .vmem, ⟨0, _⟩ => ⟨S1x64x12288, .bf16⟩
  | .local _ .vmem, ⟨1, _⟩ => ⟨S1x64x12288, .bf16⟩
  | .local _ .vmem, ⟨2, _⟩ => ⟨S1x1x12288, .bf16⟩
  | .local _ .vmem, ⟨3, _⟩ => ⟨S1x1x12288, .bf16⟩
  | .local _ .vmem, ⟨4, _⟩ => ⟨S1x1x12288, .bf16⟩
  | .local _ .vmem, ⟨5, _⟩ => ⟨S1x1x12288, .bf16⟩
  | .local _ .vmem, ⟨6, _⟩ => ⟨S1x64x12288, .i8⟩
  | .local _ .vmem, ⟨7, _⟩ => ⟨S1x64x12288, .i8⟩
  | .local _ .vmem, ⟨8, _⟩ => ⟨S1x64x1, .f32⟩
  | .local _ .vmem, ⟨9, _⟩ => ⟨S1x64x1, .f32⟩
  | .local _ .vmem, ⟨10, _⟩ => ⟨S1x512x12288, .i8⟩
  | .local _ .vmem, ⟨11, _⟩ => ⟨S1x512x12288, .i8⟩
  | .local _ .vmem, ⟨12, _⟩ => ⟨S12288x256, .i8⟩
  | .local _ .vmem, ⟨13, _⟩ => ⟨S12288x256, .i8⟩
  | .local _ .vmem, ⟨14, _⟩ => ⟨S1x512x1, .f32⟩
  | .local _ .vmem, ⟨15, _⟩ => ⟨S1x512x1, .f32⟩
  | .local _ .vmem, ⟨16, _⟩ => ⟨S1x512, .f32⟩
  | .local _ .vmem, ⟨17, _⟩ => ⟨S1x512, .f32⟩
  | .local _ .vmem, ⟨18, _⟩ => ⟨S1x512, .bf16⟩
  | .local _ .vmem, ⟨19, _⟩ => ⟨S1x512, .bf16⟩
  | .local _ .vmem, ⟨20, _⟩ => ⟨S1x1x512, .bf16⟩
  | .local _ .vmem, ⟨21, _⟩ => ⟨S1x1x512, .bf16⟩
  | .local _ .vmem, ⟨22, _⟩ => ⟨S1x512x512, .bf16⟩
  | .local _ .vmem, ⟨23, _⟩ => ⟨S1x512x512, .bf16⟩
  | .local _ .vmem, ⟨24, _⟩ => ⟨S512x256, .f32⟩
  | .local _ .vmem, ⟨25, _⟩ => ⟨S512x256, .f32⟩
  | _, _ => ⟨S2x1024x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x12288 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x12288 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x12288 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 2, 10], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x512x12288 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S12288x256 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 2 → Memref sig .tc .vmem S1x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 2 → Memref sig .tc .vmem S1x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, false, true]

abbrev stage1_5 : Fin 2 → Memref sig .tc .vmem S1x1x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, true]

abbrev stage1_6 : Fin 2 → Memref sig .tc .vmem S1x512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]
-- ==== ReferenceIdeal.lean ====
abbrev S2x1024x12288 : Shape := ⟨3, ![2, 1024, 12288]⟩
abbrev S2x12288 : Shape := ⟨2, ![2, 12288]⟩
abbrev S2x5120 : Shape := ⟨2, ![2, 5120]⟩
abbrev S12288x2560 : Shape := ⟨2, ![12288, 2560]⟩
abbrev S5120 : Shape := ⟨1, ![5120]⟩
abbrev S_ : Shape := ⟨0, ![]⟩
abbrev S2x1024 : Shape := ⟨2, ![2, 1024]⟩
abbrev S2x1024x1 : Shape := ⟨3, ![2, 1024, 1]⟩
abbrev S2x1x12288 : Shape := ⟨3, ![2, 1, 12288]⟩
abbrev S2x1024x2560 : Shape := ⟨3, ![2, 1024, 2560]⟩
abbrev S2x1024x2560x1 : Shape := ⟨4, ![2, 1024, 2560, 1]⟩
abbrev S2x1024x2560x2 : Shape := ⟨4, ![2, 1024, 2560, 2]⟩
abbrev S2x1024x5120 : Shape := ⟨3, ![2, 1024, 5120]⟩
abbrev S1x1x5120 : Shape := ⟨3, ![1, 1, 5120]⟩
abbrev S2x1x5120 : Shape := ⟨3, ![2, 1, 5120]⟩

abbrev nBuf : Space → Nat
  | .hbm => 121
  | .vmem => 0
  | .smem => 0
  | _ => 0

abbrev bufTy : (tb : Table) → Fin (tcTables nBuf tb) → BufTy
  | .hbm, ⟨0, _⟩ => ⟨S2x1024x12288, .bf16⟩
  | .hbm, ⟨1, _⟩ => ⟨S2x12288, .bf16⟩
  | .hbm, ⟨2, _⟩ => ⟨S2x12288, .bf16⟩
  | .hbm, ⟨3, _⟩ => ⟨S2x5120, .bf16⟩
  | .hbm, ⟨4, _⟩ => ⟨S12288x2560, .i8⟩
  | .hbm, ⟨5, _⟩ => ⟨S5120, .f32⟩
  | .hbm, ⟨6, _⟩ => ⟨S5120, .bf16⟩
  | .hbm, ⟨7, _⟩ => ⟨S2x1024x12288, .f32⟩
  | .hbm, ⟨8, _⟩ => ⟨S_, .f32⟩
  | .hbm, ⟨9, _⟩ => ⟨S2x1024, .f32⟩
  | .hbm, ⟨10, _⟩ => ⟨S2x1024x1, .f32⟩
  | .hbm, ⟨11, _⟩ => ⟨S_, .f32⟩
  | .hbm, ⟨12, _⟩ => ⟨S2x1024x1, .f32⟩
  | .hbm, ⟨13, _⟩ => ⟨S2x1024x1, .f32⟩
  | .hbm, ⟨14, _⟩ => ⟨S2x1024x12288, .f32⟩
  | .hbm, ⟨15, _⟩ => ⟨S2x1024x12288, .f32⟩
  | .hbm, ⟨16, _⟩ => ⟨S2x1024x12288, .f32⟩
  | .hbm, ⟨17, _⟩ => ⟨S_, .f32⟩
  | .hbm, ⟨18, _⟩ => ⟨S2x1024, .f32⟩
  | .hbm, ⟨19, _⟩ => ⟨S2x1024x1, .f32⟩
  | .hbm, ⟨20, _⟩ => ⟨S_, .f32⟩
  | .hbm, ⟨21, _⟩ => ⟨S2x1024x1, .f32⟩
  | .hbm, ⟨22, _⟩ => ⟨S2x1024x1, .f32⟩
  | .hbm, ⟨23, _⟩ => ⟨S_, .f32⟩
  | .hbm, ⟨24, _⟩ => ⟨S2x1024x1, .f32⟩
  | .hbm, ⟨25, _⟩ => ⟨S2x1024x1, .f32⟩
  | .hbm, ⟨26, _⟩ => ⟨S2x1024x1, .f32⟩
  | .hbm, ⟨27, _⟩ => ⟨S2x1024x12288, .f32⟩
  | .hbm, ⟨28, _⟩ => ⟨S2x1024x12288, .f32⟩
  | .hbm, ⟨29, _⟩ => ⟨S2x12288, .f32⟩
  | .hbm, ⟨30, _⟩ => ⟨S2x1x12288, .f32⟩
  | .hbm, ⟨31, _⟩ => ⟨S_, .f32⟩
  | .hbm, ⟨32, _⟩ => ⟨S2x1x12288, .f32⟩
  | .hbm, ⟨33, _⟩ => ⟨S2x1x12288, .f32⟩
  | .hbm, ⟨34, _⟩ => ⟨S2x1024x12288, .f32⟩
  | .hbm, ⟨35, _⟩ => ⟨S2x1024x12288, .f32⟩
  | .hbm, ⟨36, _⟩ => ⟨S2x12288, .f32⟩
  | .hbm, ⟨37, _⟩ => ⟨S2x1x12288, .f32⟩
  | .hbm, ⟨38, _⟩ => ⟨S2x1024x12288, .f32⟩
  | .hbm, ⟨39, _⟩ => ⟨S2x1024x12288, .f32⟩
  | .hbm, ⟨40, _⟩ => ⟨S2x1024x12288, .f32⟩
  | .hbm, ⟨41, _⟩ => ⟨S_, .f32⟩
  | .hbm, ⟨42, _⟩ => ⟨S2x1024, .f32⟩
  | .hbm, ⟨43, _⟩ => ⟨S_, .f32⟩
  | .hbm, ⟨44, _⟩ => ⟨S2x1024, .f32⟩
  | .hbm, ⟨45, _⟩ => ⟨S2x1024, .i1⟩
  | .hbm, ⟨46, _⟩ => ⟨S_, .f32⟩
  | .hbm, ⟨47, _⟩ => ⟨S2x1024, .f32⟩
  | .hbm, ⟨48, _⟩ => ⟨S2x1024, .f32⟩
  | .hbm, ⟨49, _⟩ => ⟨S_, .f32⟩
  | .hbm, ⟨50, _⟩ => ⟨S_, .f32⟩
  | .hbm, ⟨51, _⟩ => ⟨S2x1024, .f32⟩
  | .hbm, ⟨52, _⟩ => ⟨S2x1024, .f32⟩
  | .hbm, ⟨53, _⟩ => ⟨S2x1024x1, .f32⟩
  | .hbm, ⟨54, _⟩ => ⟨S2x1024x12288, .f32⟩
  | .hbm, ⟨55, _⟩ => ⟨S2x1024x12288, .f32⟩
  | .hbm, ⟨56, _⟩ => ⟨S2x1024x12288, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S2x1024x12288, .f32⟩
  | .hbm, ⟨61, _⟩ => ⟨S2x1024x12288, .f32⟩
  | .hbm, ⟨62, _⟩ => ⟨S_, .f32⟩
  | .hbm, ⟨63, _⟩ => ⟨S2x1024x12288, .f32⟩
  | .hbm, ⟨64, _⟩ => ⟨S2x1024x12288, .f32⟩
  | .hbm, ⟨65, _⟩ => ⟨S2x1024x12288, .i32⟩
  | .hbm, ⟨66, _⟩ => ⟨S2x1024x12288, .i8⟩
  | .hbm, ⟨67, _⟩ => ⟨S2x1024x12288, .i32⟩
  | .hbm, ⟨68, _⟩ => ⟨S2x1024x12288, .bf16⟩
  | .hbm, ⟨69, _⟩ => ⟨S12288x2560, .i32⟩
  | .hbm, ⟨70, _⟩ => ⟨S_, .i32⟩
  | .hbm, ⟨71, _⟩ => ⟨S12288x2560, .i32⟩
  | .hbm, ⟨72, _⟩ => ⟨S12288x2560, .i32⟩
  | .hbm, ⟨73, _⟩ => ⟨S12288x2560, .i8⟩
  | .hbm, ⟨74, _⟩ => ⟨S12288x2560, .i32⟩
  | .hbm, ⟨75, _⟩ => ⟨S_, .i32⟩
  | .hbm, ⟨76, _⟩ => ⟨S12288x2560, .i32⟩
  | .hbm, ⟨77, _⟩ => ⟨S12288x2560, .i1⟩
  | .hbm, ⟨78, _⟩ => ⟨S_, .i32⟩
  | .hbm, ⟨79, _⟩ => ⟨S12288x2560, .i32⟩
  | .hbm, ⟨80, _⟩ => ⟨S12288x2560, .i32⟩
  | .hbm, ⟨81, _⟩ => ⟨S12288x2560, .i32⟩
  | .hbm, ⟨82, _⟩ => ⟨S12288x2560, .i8⟩
  | .hbm, ⟨83, _⟩ => ⟨S12288x2560, .i32⟩
  | .hbm, ⟨84, _⟩ => ⟨S12288x2560, .bf16⟩
  | .hbm, ⟨85, _⟩ => ⟨S_, .i32⟩
  | .hbm, ⟨86, _⟩ => ⟨S12288x2560, .i32⟩
  | .hbm, ⟨87, _⟩ => ⟨S12288x2560, .i32⟩
  | .hbm, ⟨88, _⟩ => ⟨S12288x2560, .i8⟩
  | .hbm, ⟨89, _⟩ => ⟨S12288x2560, .i32⟩
  | .hbm, ⟨90, _⟩ => ⟨S_, .i32⟩
  | .hbm, ⟨91, _⟩ => ⟨S12288x2560, .i32⟩
  | .hbm, ⟨92, _⟩ => ⟨S12288x2560, .i1⟩
  | .hbm, ⟨93, _⟩ => ⟨S_, .i32⟩
  | .hbm, ⟨94, _⟩ => ⟨S12288x2560, .i32⟩
  | .hbm, ⟨95, _⟩ => ⟨S12288x2560, .i32⟩
  | .hbm, ⟨96, _⟩ => ⟨S12288x2560, .i32⟩
  | .hbm, ⟨97, _⟩ => ⟨S12288x2560, .i8⟩
  | .hbm, ⟨98, _⟩ => ⟨S12288x2560, .i32⟩
  | .hbm, ⟨99, _⟩ => ⟨S12288x2560, .bf16⟩
  | .hbm, ⟨100, _⟩ => ⟨S2x1024x2560, .f32⟩
  | .hbm, ⟨101, _⟩ => ⟨S2x1024x2560, .f32⟩
  | .hbm, ⟨102, _⟩ => ⟨S2x1024x2560x1, .f32⟩
  | .hbm, ⟨103, _⟩ => ⟨S2x1024x2560x1, .f32⟩
  | .hbm, ⟨104, _⟩ => ⟨S2x1024x2560x2, .f32⟩
  | .hbm, ⟨105, _⟩ => ⟨S2x1024x5120, .f32⟩
  | .hbm, ⟨106, _⟩ => ⟨S2x1024x1, .f32⟩
  | .hbm, ⟨107, _⟩ => ⟨S2x1024x5120, .f32⟩
  | .hbm, ⟨108, _⟩ => ⟨S2x1024x5120, .f32⟩
  | .hbm, ⟨109, _⟩ => ⟨S1x1x5120, .f32⟩
  | .hbm, ⟨110, _⟩ => ⟨S2x1024x5120, .f32⟩
  | .hbm, ⟨111, _⟩ => ⟨S2x1024x5120, .f32⟩
  | .hbm, ⟨112, _⟩ => ⟨S5120, .f32⟩
  | .hbm, ⟨113, _⟩ => ⟨S1x1x5120, .f32⟩
  | .hbm, ⟨114, _⟩ => ⟨S2x1024x5120, .f32⟩
  | .hbm, ⟨115, _⟩ => ⟨S2x1024x5120, .f32⟩
  | .hbm, ⟨116, _⟩ => ⟨S2x5120, .f32⟩
  | .hbm, ⟨117, _⟩ => ⟨S2x1x5120, .f32⟩
  | .hbm, ⟨118, _⟩ => ⟨S2x1024x5120, .f32⟩
  | .hbm, ⟨119, _⟩ => ⟨S2x1024x5120, .f32⟩
  | .hbm, ⟨120, _⟩ => ⟨S2x1024x5120, .bf16⟩
  | _, _ => ⟨S2x1024x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_call0_v0 : Ref sig .tc := ⟨.hbm, 50, rfl⟩
abbrev main_call0_v1 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_cst_10 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_11 : Ref sig .tc := ⟨.hbm, 75, rfl⟩
abbrev main_v48 : Ref sig .tc := ⟨.hbm, 76, rfl⟩
abbrev main_v49 : Ref sig .tc := ⟨.hbm, 77, rfl⟩
abbrev main_c_12 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_13 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_14 : Ref sig .tc := ⟨.hbm, 90, rfl⟩
abbrev main_v60 : Ref sig .tc := ⟨.hbm, 91, rfl⟩
abbrev main_v61 : Ref sig .tc := ⟨.hbm, 92, rfl⟩
abbrev main_c_15 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩

abbrev nD : Nat := 1
abbrev τ : Topo := Topo.v7x

variable {F : FTy → Type} [FloatOps F]
-- ==== Proof.KRun.lean ====
/-
  The run of the kernel program with its results named: `value_run` is the frame's launch with the three result
  arrays kept in the final state's reading, each at the contents the fold through the program gives it.
-/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates with each result array at the
    contents the fold through the program's segments gives it, and the arguments as launched. -/
theorem value_run : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_v2_0) = W5 m ρ c (Proc.devRef .tc main_v2_0)
      ∧ r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v6 (by decide)), h c _ (mem_uc main_v2_0 (by decide)), h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

/-- The packed-shift operand of the first region is the shift argument with a unit axis inserted. -/
theorem V1_v0 (c : Dev nD) : V1 m ρ c main_v0
    = broadcastInDim S2x1x12288 ![0, 2] bcast_S2x12288_S2x1x12288_0_2 (m ((c.tc : Thread nD τ).loc main_arg1)) := by
  simp only [V1, W1, hostOps0]; after_results_simp <;> rfl

/-- The scale operand of the first region is the scale argument with a unit axis inserted. -/
theorem V1_v1 (c : Dev nD) : V1 m ρ c main_v1
    = broadcastInDim S2x1x12288 ![0, 2] bcast_S2x12288_S2x1x12288_0_2 (m ((c.tc : Thread nD τ).loc main_arg2)) := by
  simp only [V1, W1, hostOps0]; after_results_simp <;> rfl

end Cert.KernelIdeal.Val
-- ==== Proof.Spec.lean ====
/-
  The mathematics of the layer on the extended reals, one row at a time, with no program in it: what the kernel's
  first region and the reference are each shown to compute, in a form both are read into.
-/
module

public import Idealize.ShloMosaic.PureOps.Ideal.Laws
public import Idealize.ShloMosaic.Lib.Pointwise

@[expose] public section

noncomputable section

namespace Cert.Spec

open Idealize.ShloMosaic

/-- A row of the activations' width. -/
abbrev Row : Type := Fin 12288 → EReal

/-- The mean of a row. -/
def mean (r : Row) : EReal := Ideal.div (∑ k, r k) (Ideal.ofBits .f32 0x46400000#32)

/-- A row's deviation from its mean. -/
def dev (r : Row) (k : Fin 12288) : EReal := r k - mean r

/-- The variance of a row. -/
def var (r : Row) : EReal := Ideal.div (∑ k, dev r k * dev r k) (Ideal.ofBits .f32 0x46400000#32)

/-- The normalised row, scaled by one plus the modulation and shifted. -/
def modulated (r sh sc : Row) (k : Fin 12288) : EReal :=
  dev r k * Ideal.rsqrt (var r + Ideal.ofBits .f32 0x358637BD#32) * (1 + sc k) + sh k

/-- The largest absolute value in a row. -/
def amax (h : Row) : EReal := Finset.univ.fold max (Ideal.ofBits .f32 0xFF800000#32) fun k => max (h k) (-(h k))

/-- The scale of a row's quantization: its largest absolute value over 127, or one for a row of zeros. -/
def rowScale (h : Row) : EReal :=
  if 0 < amax h then Ideal.div (amax h) (Ideal.ofBits .f32 0x42FE0000#32) else 1

/-- An element over its row's scale, rounded to nearest even and clipped to the symmetric range of a signed byte. -/
def clipped (h : Row) (k : Fin 12288) : EReal :=
  min (Ideal.ofBits .f32 0x42FE0000#32) (max (Ideal.ofBits .f32 0xC2FE0000#32)
    (Ideal.liftRound Ideal.roundHalfEven (Ideal.div (h k) (rowScale h))))

/-- The quantized code of an element. -/
def code (h : Row) (k : Fin 12288) : BitVec 8 := Ideal.fptosi 8 (clipped h k)

/-- The value of a signed word. -/
def ival {w : ℕ} (b : BitVec w) : EReal := ((b.toInt : ℝ) : EReal)

/-- The low nibble of a packed byte, sign-extended. -/
def lo (b : BitVec 8) : BitVec 32 := (b.setWidth 4).signExtend 32

/-- The high nibble of a packed byte, sign-extended. -/
def hi (b : BitVec 8) : BitVec 32 := ((b >>> 4).setWidth 4).signExtend 32

/-- The weight of output column `n` in its packed byte: the low nibble of an even column, the high one of an odd. -/
def nib (n : ℕ) (b : BitVec 8) : BitVec 32 := if n % 2 = 0 then lo b else hi b

/-- The product of a row of codes with a column of weights. -/
def dot (q : Fin 12288 → BitVec 8) (w : Fin 12288 → BitVec 32) : EReal := ∑ k, ival (q k) * ival (w k)

/-- The epilogue of a product: the two scales, the bias, the gate. -/
def epilogue (d hs ws b g : EReal) : EReal := (d * hs * ws + b) * g

/-! ## The layer's three results, from its arguments' elements -/

section
variable (x : Fin 2 → Fin 1024 → Row) (sh sc : Fin 2 → Row) (g : Fin 2 → Fin 5120 → EReal)
  (w : Fin 12288 → Fin 2560 → BitVec 8) (ws bi : Fin 5120 → EReal)

/-- The modulated row of token `s` of batch `b`. -/
def hrow (b : Fin 2) (s : Fin 1024) : Row := modulated (x b s) (sh b) (sc b)

/-- The byte column of the packed weights that holds output column `n`. -/
def byteCol (n : Fin 5120) : Fin 2560 := ⟨n.val / 2, by omega⟩

/-- The layer's output at token `s` of batch `b`, column `n`. -/
def layer (b : Fin 2) (s : Fin 1024) (n : Fin 5120) : EReal :=
  epilogue (dot (code (hrow x sh sc b s)) (fun k => nib n.val (w k (byteCol n)))) (rowScale (hrow x sh sc b s)) (ws n) (bi n) (g b n)
end

end Cert.Spec
-- ==== Proof.QuantPay.lean ====
/-
  The first region's body at an index: what one point of the quantization grid stores for a block of activations, as the
  row mathematics of `Spec`; and the block each window of that grid has at a point.
-/
module

public import proofs.«01_k».proof.Proof.Gen.KernelIdeal.Frame
public import proofs.«01_k».proof.Proof.Spec
public import Idealize.ShloMosaic.Lib.Pipeline.Value
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat)
open Cert.Spec

/-- The zero offset of a rank-three access. -/
theorem hz3 : (![0, 0, 0] : Fin 3 → Nat) = fun _ => 0 := funext fun a => by fin_cases a <;> rfl

/-- The first region's modulated activations: row `r`, column `k` of a block is the row's mathematics. -/
theorem pay4_apply (x : Vec Ideal S1x64x12288 .bf16) (sc sh : Vec Ideal S1x1x12288 .bf16) (r : Fin 64) (k : Fin 12288) :
    k0_pay4 x sc sh (ix2 r k) = modulated (fun k => x (ix3 0 r k)) (fun k => sh (ix3 0 0 k)) (fun k => sc (ix3 0 0 k)) k := by
  pointwise [k0_pay4]
  rfl

/-- The largest absolute value of each row of a block. -/
theorem pay5_apply (x : Vec Ideal S1x64x12288 .bf16) (sc sh : Vec Ideal S1x1x12288 .bf16) (r : Fin 64) (z : Fin 1) :
    k0_pay5 x sc sh (ix2 r z) = amax (modulated (fun k => x (ix3 0 r k)) (fun k => sh (ix3 0 0 k)) (fun k => sc (ix3 0 0 k))) := by
  pointwise [k0_pay5]
  simp only [pay4_apply]
  rfl

/-- The scale of each row of a block. -/
theorem pay1_apply (x : Vec Ideal S1x64x12288 .bf16) (sc sh : Vec Ideal S1x1x12288 .bf16) (r : Fin 64) (z : Fin 1) :
    k0_pay1 (k0_pay6 x sc sh) (k0_pay7 x sc sh) k0_pay8 (ix2 r z)
      = rowScale (modulated (fun k => x (ix3 0 r k)) (fun k => sh (ix3 0 0 k)) (fun k => sc (ix3 0 0 k))) := by
  pointwise [k0_pay1, k0_pay6, k0_pay7, k0_pay8]
  simp only [pay5_apply, rowScale]

/-- The codes the first region stores for a block. -/
theorem pay2_apply (x : Vec Ideal S1x64x12288 .bf16) (sc sh : Vec Ideal S1x1x12288 .bf16) (b : Fin 1) (r : Fin 64) (k : Fin 12288) :
    k0_pay2 (k0_pay4 x sc sh) (k0_pay6 x sc sh) (k0_pay7 x sc sh) k0_pay8 (ix3 b r k)
      = code (modulated (fun k => x (ix3 0 r k)) (fun k => sh (ix3 0 0 k)) (fun k => sc (ix3 0 0 k))) k := by
  pointwise [k0_pay2]
  simp only [pay4_apply, pay1_apply]
  rfl

/-- The scales the first region stores for a block. -/
theorem pay3_apply (x : Vec Ideal S1x64x12288 .bf16) (sc sh : Vec Ideal S1x1x12288 .bf16) (b : Fin 1) (r : Fin 64) (z : Fin 1) :
    k0_pay3 (k0_pay6 x sc sh) (k0_pay7 x sc sh) k0_pay8 (ix3 b r z)
      = rowScale (modulated (fun k => x (ix3 0 r k)) (fun k => sh (ix3 0 0 k)) (fun k => sc (ix3 0 0 k))) := by
  pointwise [k0_pay3]
  simp only [pay1_apply]

/-- What a point of the first region leaves in the codes' buffer, at an index. -/
theorem out3_apply (x : Vec Ideal S1x64x12288 .bf16) (sh sc : Vec Ideal S1x1x12288 .bf16) (b : Fin 1) (r : Fin 64) (k : Fin 12288) :
    out0_3 x sh sc (ix3 b r k)
      = code (modulated (fun k => x (ix3 0 r k)) (fun k => sh (ix3 0 0 k)) (fun k => sc (ix3 0 0 k))) k := by
  unfold_out out0_3
  rw [View.canon_unit_zero hz3]
  simp only [View.ld_unit_zero (S := S1x64x12288) hz3, View.ld_unit_zero (S := S1x1x12288) hz3]
  exact pay2_apply x sc sh b r k

/-- What a point of the first region leaves in the scales' buffer, at an index. -/
theorem out4_apply (x : Vec Ideal S1x64x12288 .bf16) (sh sc : Vec Ideal S1x1x12288 .bf16) (b : Fin 1) (r : Fin 64) (z : Fin 1) :
    out0_4 x sh sc (ix3 b r z)
      = rowScale (modulated (fun k => x (ix3 0 r k)) (fun k => sh (ix3 0 0 k)) (fun k => sc (ix3 0 0 k))) := by
  unfold_out out0_4
  rw [View.canon_unit_zero hz3]
  simp only [View.ld_unit_zero (S := S1x64x12288) hz3, View.ld_unit_zero (S := S1x1x12288) hz3]
  exact pay3_apply x sc sh b r z

/-! ## The windows of the first region: where a point's block lies in its array -/

/-- Point `t` of the 2 × 16 grid has coordinates `t / 16` and `t % 16`: each window's block index there. -/
theorem idx0 : ∀ t : Fin cfg0.N,
    (win0_0.index t 0 = t.val / 16 ∧ win0_0.index t 1 = t.val % 16 ∧ win0_0.index t 2 = 0)
    ∧ (win0_1.index t 0 = t.val / 16 ∧ win0_1.index t 1 = 0 ∧ win0_1.index t 2 = 0)
    ∧ (win0_2.index t 0 = t.val / 16 ∧ win0_2.index t 1 = 0 ∧ win0_2.index t 2 = 0)
    ∧ (win0_3.index t 0 = t.val / 16 ∧ win0_3.index t 1 = t.val % 16 ∧ win0_3.index t 2 = 0)
    ∧ (win0_4.index t 0 = t.val / 16 ∧ win0_4.index t 1 = t.val % 16 ∧ win0_4.index t 2 = 0) := by
  decide +kernel

end Cert.KernelIdeal.Val
-- ==== Proof.Quant.lean ====
/-
  The first region's result arrays: every block of codes and of scales it writes back is the restriction of one function
  of the arrays the region is entered with, so after the region the two arrays are that function.
-/
module

public import proofs.«01_k».proof.Proof.QuantPay
public import Idealize.ShloMosaic.Lib.Pipeline.Value
public import Idealize.ShloMosaic.Lib.Pipeline.ValueKit.Geometry
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat)
open Cert.Spec

variable (V : (c : Dev nD) → (b : Ref sig .tc) → Buf (Elt Ideal) ((c : Thread nD τ).loc b))

/-- The batch of a point of the first region. -/
def bat0 (t : Fin cfg0.N) : Fin 2 := ⟨t.val / 16, by have := t.isLt; have h : cfg0.N = 32 := N_0; omega⟩
/-- The row of the array at row `r` of a point's block in the first region. -/
def row0 (t : Fin cfg0.N) (r : Fin 64) : Fin 1024 := ⟨t.val % 16 * 64 + r.val, by have := r.isLt; omega⟩

/-- A block of activations, at an index. -/
theorem blk0_0_apply (c : Dev nD) (t : Fin cfg0.N) (r : Fin 64) (k : Fin 12288) :
    iblk0 V c 0 t (ix3 0 r k : S1x64x12288.Idx) = V c main_arg0 (ix3 (bat0 t) (row0 t r) k : S2x1024x12288.Idx) := by
  have hi := (idx0 t).1
  unfold iblk0
  rw [View.read_apply]
  refine congrArg (V c main_arg0) (funext fun a => Fin.ext ?_)
  match a with
  | ⟨0, _⟩ => show win0_0.index t 0 * 1 + 1 * 0 = t.val / 16; rw [hi.1]; omega
  | ⟨1, _⟩ => show win0_0.index t 1 * 64 + 1 * r.val = t.val % 16 * 64 + r.val; rw [hi.2.1]; omega
  | ⟨2, _⟩ => show win0_0.index t 2 * 12288 + 1 * k.val = k.val; rw [hi.2.2]; omega

/-- A block of shifts, at an index. -/
theorem blk0_1_apply (c : Dev nD) (t : Fin cfg0.N) (k : Fin 12288) :
    iblk0 V c 1 t (ix3 0 0 k : S1x1x12288.Idx) = V c main_v0 (ix3 (bat0 t) 0 k : S2x1x12288.Idx) := by
  have hi := (idx0 t).2.1
  unfold iblk0
  rw [View.read_apply]
  refine congrArg (V c main_v0) (funext fun a => Fin.ext ?_)
  match a with
  | ⟨0, _⟩ => show win0_1.index t 0 * 1 + 1 * 0 = t.val / 16; rw [hi.1]; omega
  | ⟨1, _⟩ => show win0_1.index t 1 * 1 + 1 * 0 = 0; rw [hi.2.1]
  | ⟨2, _⟩ => show win0_1.index t 2 * 12288 + 1 * k.val = k.val; rw [hi.2.2]; omega

/-- A block of scales, at an index. -/
theorem blk0_2_apply (c : Dev nD) (t : Fin cfg0.N) (k : Fin 12288) :
    iblk0 V c 2 t (ix3 0 0 k : S1x1x12288.Idx) = V c main_v1 (ix3 (bat0 t) 0 k : S2x1x12288.Idx) := by
  have hi := (idx0 t).2.2.1
  unfold iblk0
  rw [View.read_apply]
  refine congrArg (V c main_v1) (funext fun a => Fin.ext ?_)
  match a with
  | ⟨0, _⟩ => show win0_2.index t 0 * 1 + 1 * 0 = t.val / 16; rw [hi.1]; omega
  | ⟨1, _⟩ => show win0_2.index t 1 * 1 + 1 * 0 = 0; rw [hi.2.1]
  | ⟨2, _⟩ => show win0_2.index t 2 * 12288 + 1 * k.val = k.val; rw [hi.2.2]; omega

/-- The modulated row `(b, s)` of the arrays the first region is entered with. -/
def vrow (c : Dev nD) (b : Fin 2) (s : Fin 1024) : Row :=
  modulated (fun k => V c main_arg0 (ix3 b s k : S2x1024x12288.Idx)) (fun k => V c main_v0 (ix3 b 0 k : S2x1x12288.Idx))
    (fun k => V c main_v1 (ix3 b 0 k : S2x1x12288.Idx))

/-- The codes the first region leaves, as one function of the arrays it is entered with. -/
def codes (c : Dev nD) : Buf (Elt Ideal) ((c : Thread nD τ).loc main_v2_0) :=
  fun (i : S2x1024x12288.Idx) => code (vrow V c (i 0) (i 1)) (i 2)
/-- The scales the first region leaves, as one function of the arrays it is entered with. -/
def scales (c : Dev nD) : Buf (Elt Ideal) ((c : Thread nD τ).loc main_v2_1) :=
  fun (i : S2x1024x1.Idx) => rowScale (vrow V c (i 0) (i 1))

/-- What a point writes back of the codes is the codes under its block. -/
theorem flushed0_3 (c : Dev nD) (t : Fin cfg0.N) :
    (dat0 V c).flushed 3 t = (win0_3.blk t).view.read (Elt Ideal) (codes V c) := by
  have hi := (idx0 t).2.2.2.1
  show (cfg0.win 3).cut (grid0.coords t) ((dat0 V c).after 3 t) = _
  rw [after0_3]
  funext j
  obtain ⟨b, r, k, rfl⟩ : ∃ (b : Fin 1) (r : Fin 64) (k : Fin 12288), j = (ix3 b r k : S1x64x12288.Idx) := ⟨j 0, j 1, j 2, eq_ix3 j⟩
  refine (out3_apply _ _ _ b r k).trans ?_
  simp only [blk0_0_apply, blk0_1_apply, blk0_2_apply]
  rw [View.read_apply]
  have e : ((win0_3.blk t).view.emb (ix3 b r k : S1x64x12288.Idx)) = (ix3 (bat0 t) (row0 t r) k : S2x1024x12288.Idx) := by
    refine funext fun a => Fin.ext ?_
    match a with
    | ⟨0, _⟩ => show win0_3.index t 0 * 1 + 1 * b.val = t.val / 16; rw [hi.1]; omega
    | ⟨1, _⟩ => show win0_3.index t 1 * 64 + 1 * r.val = t.val % 16 * 64 + r.val; rw [hi.2.1]; omega
    | ⟨2, _⟩ => show win0_3.index t 2 * 12288 + 1 * k.val = k.val; rw [hi.2.2]; omega
  rw [e]
  rfl

/-- What a point writes back of the scales is the scales under its block. -/
theorem flushed0_4 (c : Dev nD) (t : Fin cfg0.N) :
    (dat0 V c).flushed 4 t = (win0_4.blk t).view.read (Elt Ideal) (scales V c) := by
  have hi := (idx0 t).2.2.2.2
  show (cfg0.win 4).cut (grid0.coords t) ((dat0 V c).after 4 t) = _
  rw [after0_4]
  funext j
  obtain ⟨b, r, k, rfl⟩ : ∃ (b : Fin 1) (r : Fin 64) (k : Fin 1), j = (ix3 b r k : S1x64x1.Idx) := ⟨j 0, j 1, j 2, eq_ix3 j⟩
  refine (out4_apply _ _ _ b r k).trans ?_
  simp only [blk0_0_apply, blk0_1_apply, blk0_2_apply]
  rw [View.read_apply]
  have e : ((win0_4.blk t).view.emb (ix3 b r k : S1x64x1.Idx)) = (ix3 (bat0 t) (row0 t r) k : S2x1024x1.Idx) := by
    refine funext fun a => Fin.ext ?_
    match a with
    | ⟨0, _⟩ => show win0_4.index t 0 * 1 + 1 * b.val = t.val / 16; rw [hi.1]; omega
    | ⟨1, _⟩ => show win0_4.index t 1 * 64 + 1 * r.val = t.val % 16 * 64 + r.val; rw [hi.2.1]; omega
    | ⟨2, _⟩ => show win0_4.index t 2 * 1 + 1 * k.val = k.val; rw [hi.2.2]; omega
  rw [e]
  rfl

/-- After the first region the codes' array holds the codes. -/
theorem arr0_3 (c : Dev nD) : (dat0 V c).arrAt 3 cfg0.N = codes V c :=
  (dat0 V c).arrAt_eq_of_cover 3 _ (fun t _ => flushed0_3 V c t)
    ((by decide +kernel : (cfg0.win 3).Covers).cover _ (Memref.isWhole_whole _))

/-- After the first region the scales' array holds the scales. -/
theorem arr0_4 (c : Dev nD) : (dat0 V c).arrAt 4 cfg0.N = scales V c :=
  (dat0 V c).arrAt_eq_of_cover 4 _ (fun t _ => flushed0_4 V c t)
    ((by decide +kernel : (cfg0.win 4).Covers).cover _ (Memref.isWhole_whole _))

end Cert.KernelIdeal.Val
-- ==== Proof.MatOpen.lean ====
/-
  The second region's body opened: what one point of the multiplication grid leaves in the output's buffer is two stored
  halves, each a payload of the two accumulators (the six partial products of the even and of the odd columns) and of the
  point's blocks.
-/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.SL.Sem

/-- The zero offset of a rank-two access. -/
theorem hz2 : (![0, 0] : Fin 2 → Nat) = fun _ => 0 := funext fun a => by fin_cases a <;> rfl

/-- A load of a whole accumulator reads it where it is. -/
theorem idx_whole (j : S512x256.Idx) : (Rect.unit (s := S512x256) ![0, 0] S512x256.size inb_S512x256_S512x256_0_0).idx j = j := by
  refine funext fun a => Fin.ext ?_
  match a with
  | ⟨0, _⟩ => show 0 + 1 * (j 0).val = (j 0).val; omega
  | ⟨1, _⟩ => show 0 + 1 * (j 1).val = (j 1).val; omega

/-- The accumulator of the even columns: the six partial products, added in order. -/
def accLo (x0 : Vec Ideal S1x512x12288 .i8) (x1 : Vec Ideal S12288x256 .i8) : Vec Ideal S512x256 .f32 :=
  k1_pay28 (k1_pay25 (View.ld x0 (Rect.unit ![0, 0, 10240] S1x512x2048.size inb_S1x512x12288_S1x512x2048_0_0_10240))) (View.ld x1 (Rect.unit ![10240, 0] S2048x256.size inb_S12288x256_S2048x256_10240_0))
    (k1_pay23 (View.ld x0 (Rect.unit ![0, 0, 8192] S1x512x2048.size inb_S1x512x12288_S1x512x2048_0_0_8192)) (View.ld x1 (Rect.unit ![8192, 0] S2048x256.size inb_S12288x256_S2048x256_8192_0))
      (k1_pay19 (View.ld x0 (Rect.unit ![0, 0, 6144] S1x512x2048.size inb_S1x512x12288_S1x512x2048_0_0_6144)) (View.ld x1 (Rect.unit ![6144, 0] S2048x256.size inb_S12288x256_S2048x256_6144_0))
        (k1_pay14 (k1_pay12 (View.ld x0 (Rect.unit ![0, 0, 4096] S1x512x2048.size inb_S1x512x12288_S1x512x2048_0_0_4096)) (View.ld x1 (Rect.unit ![4096, 0] S2048x256.size inb_S12288x256_S2048x256_4096_0)))
          (k1_pay8 (k1_pay5 (View.ld x0 (Rect.unit ![0, 0, 2048] S1x512x2048.size inb_S1x512x12288_S1x512x2048_0_0_2048))) (k1_pay7 (View.ld x1 (Rect.unit ![2048, 0] S2048x256.size inb_S12288x256_S2048x256_2048_0)))
            (k1_pay3 (View.ld x0 (Rect.unit ![0, 0, 0] S1x512x2048.size inb_S1x512x12288_S1x512x2048_0_0_0)) (View.ld x1 (Rect.unit ![0, 0] S2048x256.size inb_S12288x256_S2048x256_0_0)))))))

/-- The accumulator of the odd columns: the six partial products, added in order. -/
def accHi (x0 : Vec Ideal S1x512x12288 .i8) (x1 : Vec Ideal S12288x256 .i8) : Vec Ideal S512x256 .f32 :=
  k1_pay29 (k1_pay25 (View.ld x0 (Rect.unit ![0, 0, 10240] S1x512x2048.size inb_S1x512x12288_S1x512x2048_0_0_10240))) (View.ld x1 (Rect.unit ![10240, 0] S2048x256.size inb_S12288x256_S2048x256_10240_0))
    (k1_pay24 (View.ld x0 (Rect.unit ![0, 0, 8192] S1x512x2048.size inb_S1x512x12288_S1x512x2048_0_0_8192)) (View.ld x1 (Rect.unit ![8192, 0] S2048x256.size inb_S12288x256_S2048x256_8192_0))
      (k1_pay20 (k1_pay18 (View.ld x0 (Rect.unit ![0, 0, 6144] S1x512x2048.size inb_S1x512x12288_S1x512x2048_0_0_6144)) (View.ld x1 (Rect.unit ![6144, 0] S2048x256.size inb_S12288x256_S2048x256_6144_0)))
        (k1_pay15 (k1_pay13 (View.ld x0 (Rect.unit ![0, 0, 4096] S1x512x2048.size inb_S1x512x12288_S1x512x2048_0_0_4096)) (View.ld x1 (Rect.unit ![4096, 0] S2048x256.size inb_S12288x256_S2048x256_4096_0)))
          (k1_pay9 (k1_pay5 (View.ld x0 (Rect.unit ![0, 0, 2048] S1x512x2048.size inb_S1x512x12288_S1x512x2048_0_0_2048))) (k1_pay6 (View.ld x1 (Rect.unit ![2048, 0] S2048x256.size inb_S12288x256_S2048x256_2048_0)))
            (k1_pay4 (View.ld x0 (Rect.unit ![0, 0, 0] S1x512x2048.size inb_S1x512x12288_S1x512x2048_0_0_0)) (View.ld x1 (Rect.unit ![0, 0] S2048x256.size inb_S12288x256_S2048x256_0_0)))))))

/-- The left half of the output block. -/
def outL (x0 : Vec Ideal S1x512x12288 .i8) (x1 : Vec Ideal S12288x256 .i8) (x2 : Vec Ideal S1x512x1 .f32)
    (x3 : Vec Ideal S1x512 .f32) (x4 : Vec Ideal S1x512 .bf16) (x5 : Vec Ideal S1x1x512 .bf16) : Vec Ideal S1x512x256 .bf16 :=
  k1_pay35 (k1_pay33 (k1_pay30 x2) (View.ld (accLo x0 x1) (Rect.unit ![0, 0] S512x128.size inb_S512x256_S512x128_0_0)) (View.ld (accHi x0 x1) (Rect.unit ![0, 0] S512x128.size inb_S512x256_S512x128_0_0))
      (iota Kind.tc S512x128 32 [1] iota_S512x128_d1_w32) k1_pay31 k1_pay32)
    (k1_pay34 (View.ld x3 (Rect.unit ![0, 0] S1x256.size inb_S1x512_S1x256_0_0)))
    (View.ld x4 (Rect.unit ![0, 0] S1x256.size inb_S1x512_S1x256_0_0))
    (View.ld x5 (Rect.unit ![0, 0, 0] S1x1x256.size inb_S1x1x512_S1x1x256_0_0_0))

/-- The right half of the output block. -/
def outR (x0 : Vec Ideal S1x512x12288 .i8) (x1 : Vec Ideal S12288x256 .i8) (x2 : Vec Ideal S1x512x1 .f32)
    (x3 : Vec Ideal S1x512 .f32) (x4 : Vec Ideal S1x512 .bf16) (x5 : Vec Ideal S1x1x512 .bf16) : Vec Ideal S1x512x256 .bf16 :=
  k1_pay41 (k1_pay30 x2) (View.ld (accLo x0 x1) (Rect.unit ![0, 128] S512x128.size inb_S512x256_S512x128_0_128)) (View.ld (accHi x0 x1) (Rect.unit ![0, 128] S512x128.size inb_S512x256_S512x128_0_128))
    k1_pay36 k1_pay37 (k1_pay39 (View.ld (accLo x0 x1) (Rect.unit ![0, 128] S512x128.size inb_S512x256_S512x128_0_128))) k1_pay40
    (View.ld x3 (Rect.unit ![0, 256] S1x256.size inb_S1x512_S1x256_0_256))
    (View.ld x4 (Rect.unit ![0, 256] S1x256.size inb_S1x512_S1x256_0_256))
    (View.ld x5 (Rect.unit ![0, 0, 256] S1x1x256.size inb_S1x1x512_S1x1x256_0_0_256))

/-- What a point of the second region leaves in the output's buffer: the two halves, stored side by side. -/
theorem out1_open (c : Dev nD) (i : grid1.Coords) (arg3 : Memref sig .tc .vmem S1x512x12288 .i8) (harg3 : arg3.IsWhole) (arg4 : Memref sig .tc .vmem S12288x256 .i8) (harg4 : arg4.IsWhole) (arg5 : Memref sig .tc .vmem S1x512x1 .f32) (harg5 : arg5.IsWhole) (arg6 : Memref sig .tc .vmem S1x512 .f32) (harg6 : arg6.IsWhole) (arg7 : Memref sig .tc .vmem S1x512 .bf16) (harg7 : arg7.IsWhole) (arg8 : Memref sig .tc .vmem S1x1x512 .bf16) (harg8 : arg8.IsWhole)
    (arg9 : Memref sig .tc .vmem S1x512x512 .bf16) (harg9 : arg9.IsWhole) (arg10 : Memref sig .tc .vmem S512x256 .f32) (harg10 : arg10.IsWhole) (arg11 : Memref sig .tc .vmem S512x256 .f32) (harg11 : arg11.IsWhole)
    (x0 : Vec Ideal S1x512x12288 .i8) (x1 : Vec Ideal S12288x256 .i8) (x2 : Vec Ideal S1x512x1 .f32) (x3 : Vec Ideal S1x512 .f32) (x4 : Vec Ideal S1x512 .bf16) (x5 : Vec Ideal S1x1x512 .bf16) :
    out1_A_6 c i arg3 harg3 arg4 harg4 arg5 harg5 arg6 harg6 arg7 harg7 arg8 harg8 arg9 harg9 arg10 harg10 arg11 harg11 x0 x1 x2 x3 x4 x5
      = View.canon [⟨Rect.unit (s := S1x512x512) ![0, 0, 256] S1x512x256.size inb_S1x512x512_S1x512x256_0_0_256, outR x0 x1 x2 x3 x4 x5⟩,
          ⟨Rect.unit (s := S1x512x512) ![0, 0, 0] S1x512x256.size inb_S1x512x512_S1x512x256_0_0_0, outL x0 x1 x2 x3 x4 x5⟩] := by
  unfold out1_A_6
  rw [View.read_writes_eq_canon _ _ _ (cover1_A_6 c i arg3 harg3 arg4 harg4 arg5 harg5 arg6 harg6 arg7 harg7 arg8 harg8 arg9 harg9 arg10 harg10 arg11 harg11 x0 x1 x2 x3 x4 x5)]
  unfold kernelRun1_A
  dsimp only
  sl_unfold_words
  simp only [View.canon_cons_unit_zero (S := S512x256) hz2, View.readCov_eq_canon',
    View.readAt_eq_ld, harg3.read_unread, harg4.read_unread, harg5.read_unread, harg6.read_unread, harg7.read_unread, harg8.read_unread]
  have hid : ∀ P : Vec Ideal S512x256 .f32, (fun j => P ((Rect.unit (s := S512x256) ![0, 0] S512x256.size inb_S512x256_S512x256_0_0).idx j)) = P :=
    fun P => funext fun j => congrArg P (idx_whole j)
  have h3 : (![0, 0, 0] : Fin 3 → Nat) = fun _ => 0 := funext fun a => by fin_cases a <;> rfl
  simp only [hid]
  rw [View.ld_unit_zero (S := S1x512x1) h3]
  rfl

end Cert.KernelIdeal.Val
-- ==== Proof.MatAcc.lean ====
/-
  The second region's accumulators at an index: each is the product of a row of codes with a column of nibbles over all
  12288 features, the six partial sums of 2048 put together.
-/
module

public import proofs.«01_k».proof.Proof.MatOpen
public import proofs.«01_k».proof.Proof.Spec

@[expose] public section

set_option maxRecDepth 16384

noncomputable section

namespace Cert.KernelIdeal.Val

open Cert.KernelIdeal Cert.KernelIdeal.Gen
open Idealize.ShloMosaic Idealize.ShloMosaic.TcCoe Idealize.SL.Sem
open Cert.Spec

/-- Shifting a byte's low nibble to the top of a word and back is its sign extension. -/
theorem lo_word (b : BitVec 8) :
    IntOp.shrsi ArithUnit.vector (IntOp.shli ArithUnit.vector (BitVec.setWidth 32 b) 28#32) 28#32 = lo b := by
  have h : ∀ i : Fin 256, IntOp.shrsi ArithUnit.vector (IntOp.shli ArithUnit.vector (BitVec.setWidth 32 (BitVec.ofFin (w := 8) i)) 28#32) 28#32
      = lo (BitVec.ofFin (w := 8) i) := by decide +kernel
  exact h b.toFin

/-- Shifting a byte's high nibble to the top of a word and back is its sign extension. -/
theorem hi_word (b : BitVec 8) :
    IntOp.shrsi ArithUnit.vector (IntOp.shli ArithUnit.vector (BitVec.setWidth 32 b) 24#32) 28#32 = hi b := by
  have h : ∀ i : Fin 256, IntOp.shrsi ArithUnit.vector (IntOp.shli ArithUnit.vector (BitVec.setWidth 32 (BitVec.ofFin (w := 8) i)) 24#32) 28#32
      = hi (BitVec.ofFin (w := 8) i) := by decide +kernel
  exact h b.toFin

/-- The conversion of a word to a float is the word's value. -/
theorem sitofp_ival {w : ℕ} (φ : FTy) (b : BitVec w) : FloatOps.sitofp (F := Ideal) φ b = ival b := rfl

/-- The product of a row of a chunk of codes with a column of its low nibbles. -/
def chunkLo (v : Vec Ideal S1x512x2048 .i8) (w : Vec Ideal S2048x256 .i8) (r : Fin 512) (j : Fin 256) : EReal :=
  ∑ k : Fin 2048, ival (v (ix3 0 r k)) * ival (lo (w (ix2 k j)))
/-- The product of a row of a chunk of codes with a column of its high nibbles. -/
def chunkHi (v : Vec Ideal S1x512x2048 .i8) (w : Vec Ideal S2048x256 .i8) (r : Fin 512) (j : Fin 256) : EReal :=
  ∑ k : Fin 2048, ival (v (ix3 0 r k)) * ival (hi (w (ix2 k j)))

section
variable (v : Vec Ideal S1x512x2048 .i8) (w : Vec Ideal S2048x256 .i8) (a : Vec Ideal S512x256 .f32) (r : Fin 512) (j : Fin 256)

/-- Chunk 0 of the even columns' accumulator. -/
theorem lo0 : k1_pay3 v w (ix2 r j) = chunkLo v w r j := by
  pointwise [k1_pay3, k1_pay1, k1_pay2]
  simp only [lo_word, sitofp_ival, chunkLo]

/-- Chunk 1 of the even columns' accumulator. -/
theorem lo1 : k1_pay8 (k1_pay5 v) (k1_pay7 w) a (ix2 r j) = a (ix2 r j) + chunkLo v w r j := by
  pointwise [k1_pay8, k1_pay5, k1_pay7, k1_pay6]
  simp only [lo_word, sitofp_ival, chunkLo]

/-- Chunk 2 of the even columns' accumulator. -/
theorem lo2 : k1_pay14 (k1_pay12 v w) a (ix2 r j) = a (ix2 r j) + chunkLo v w r j := by
  pointwise [k1_pay14, k1_pay12, k1_pay10, k1_pay11]
  simp only [lo_word, sitofp_ival, chunkLo]

/-- Chunk 3 of the even columns' accumulator. -/
theorem lo3 : k1_pay19 v w a (ix2 r j) = a (ix2 r j) + chunkLo v w r j := by
  pointwise [k1_pay19, k1_pay16, k1_pay17]
  simp only [lo_word, sitofp_ival, chunkLo]

/-- Chunk 4 of the even columns' accumulator. -/
theorem lo4 : k1_pay23 v w a (ix2 r j) = a (ix2 r j) + chunkLo v w r j := by
  pointwise [k1_pay23, k1_pay21, k1_pay22]
  simp only [lo_word, sitofp_ival, chunkLo]

/-- Chunk 5 of the even columns' accumulator. -/
theorem lo5 : k1_pay28 (k1_pay25 v) w a (ix2 r j) = a (ix2 r j) + chunkLo v w r j := by
  pointwise [k1_pay28, k1_pay25, k1_pay26, k1_pay27]
  simp only [lo_word, sitofp_ival, chunkLo]

/-- Chunk 0 of the odd columns' accumulator. -/
theorem hi0 : k1_pay4 v w (ix2 r j) = chunkHi v w r j := by
  pointwise [k1_pay4, k1_pay1, k1_pay2]
  simp only [hi_word, sitofp_ival, chunkHi]

/-- Chunk 1 of the odd columns' accumulator. -/
theorem hi1 : k1_pay9 (k1_pay5 v) (k1_pay6 w) a (ix2 r j) = a (ix2 r j) + chunkHi v w r j := by
  pointwise [k1_pay9, k1_pay5, k1_pay6]
  simp only [hi_word, sitofp_ival, chunkHi]

/-- Chunk 2 of the odd columns' accumulator. -/
theorem hi2 : k1_pay15 (k1_pay13 v w) a (ix2 r j) = a (ix2 r j) + chunkHi v w r j := by
  pointwise [k1_pay15, k1_pay13, k1_pay10, k1_pay11]
  simp only [hi_word, sitofp_ival, chunkHi]

/-- Chunk 3 of the odd columns' accumulator. -/
theorem hi3 : k1_pay20 (k1_pay18 v w) a (ix2 r j) = a (ix2 r j) + chunkHi v w r j := by
  pointwise [k1_pay20, k1_pay18, k1_pay16, k1_pay17]
  simp only [hi_word, sitofp_ival, chunkHi]

/-- Chunk 4 of the odd columns' accumulator. -/
theorem hi4 : k1_pay24 v w a (ix2 r j) = a (ix2 r j) + chunkHi v w r j := by
  pointwise [k1_pay24, k1_pay21, k1_pay22]
  simp only [hi_word, sitofp_ival, chunkHi]

/-- Chunk 5 of the odd columns' accumulator. -/
theorem hi5 : k1_pay29 (k1_pay25 v) w a (ix2 r j) = a (ix2 r j) + chunkHi v w r j := by
  pointwise [k1_pay29, k1_pay25, k1_pay26, k1_pay27]
  simp only [hi_word, sitofp_ival, chunkHi]

end

/-- A sum over the features as six sums over a chunk. -/
theorem sum_chunks (f : Fin 12288 → EReal) :
    ∑ k, f k = ((((((∑ k : Fin 2048, f ⟨0 + k.val, by omega⟩) + ∑ k : Fin 2048, f ⟨2048 + k.val, by omega⟩) + ∑ k : Fin 2048, f ⟨4096 + k.val, by omega⟩)
      + ∑ k : Fin 2048, f ⟨6144 + k.val, by omega⟩) + ∑ k : Fin 2048, f ⟨8192 + k.val, by omega⟩) + ∑ k : Fin 2048, f ⟨10240 + k.val, by omega⟩) := by
  rw [Fin.sum_univ_tiles 6 2048 rfl f]
  exact Fin.sum_univ_six _

section
variable (x0 : Vec Ideal S1x512x12288 .i8) (x1 : Vec Ideal S12288x256 .i8)

/-- The codes' chunk at feature 0, at an index. -/
theorem ldX0 (r : Fin 512) (k : Fin 2048) : (View.ld x0 (Rect.unit ![0, 0, 0] S1x512x2048.size inb_S1x512x12288_S1x512x2048_0_0_0)) (ix3 0 r k : S1x512x2048.Idx)
    = x0 (ix3 0 r ⟨0 + k.val, by omega⟩ : S1x512x12288.Idx) := by
  refine congrArg x0 (funext fun a => Fin.ext ?_)
  match a with
  | ⟨0, _⟩ => rfl
  | ⟨1, _⟩ => show 0 + 1 * r.val = r.val; omega
  | ⟨2, _⟩ => show 0 + 1 * k.val = 0 + k.val; omega

/-- The weights' chunk at feature 0, at an index. -/
theorem ldW0 (k : Fin 2048) (j : Fin 256) : (View.ld x1 (Rect.unit ![0, 0] S2048x256.size inb_S12288x256_S2048x256_0_0)) (ix2 k j : S2048x256.Idx)
    = x1 (ix2 ⟨0 + k.val, by omega⟩ j : S12288x256.Idx) := by
  refine congrArg x1 (funext fun a => Fin.ext ?_)
  match a with
  | ⟨0, _⟩ => show 0 + 1 * k.val = 0 + k.val; omega
  | ⟨1, _⟩ => show 0 + 1 * j.val = j.val; omega

/-- The product over the chunk at feature 0 with the low nibbles. -/
theorem chunkLo0 (r : Fin 512) (j : Fin 256) : chunkLo (View.ld x0 (Rect.unit ![0, 0, 0] S1x512x2048.size inb_S1x512x12288_S1x512x2048_0_0_0)) (View.ld x1 (Rect.unit ![0, 0] S2048x256.size inb_S12288x256_S2048x256_0_0)) r j
    = ∑ k : Fin 2048, ival (x0 (ix3 0 r ⟨0 + k.val, by omega⟩)) * ival (lo (x1 (ix2 ⟨0 + k.val, by omega⟩ j))) :=
  Finset.sum_congr rfl fun k _ => congrArg₂ (fun a b => ival a * ival (lo b)) (ldX0 x0 r k) (ldW0 x1 k j)

/-- The product over the chunk at feature 0 with the high nibbles. -/
theorem chunkHi0 (r : Fin 512) (j : Fin 256) : chunkHi (View.ld x0 (Rect.unit ![0, 0, 0] S1x512x2048.size inb_S1x512x12288_S1x512x2048_0_0_0)) (View.ld x1 (Rect.unit ![0, 0] S2048x256.size inb_S12288x256_S2048x256_0_0)) r j
    = ∑ k : Fin 2048, ival (x0 (ix3 0 r ⟨0 + k.val, by omega⟩)) * ival (hi (x1 (ix2 ⟨0 + k.val, by omega⟩ j))) :=
  Finset.sum_congr rfl fun k _ => congrArg₂ (fun a b => ival a * ival (hi b)) (ldX0 x0 r k) (ldW0 x1 k j)

/-- The codes' chunk at feature 2048, at an index. -/
theorem ldX2048 (r : Fin 512) (k : Fin 2048) : (View.ld x0 (Rect.unit ![0, 0, 2048] S1x512x2048.size inb_S1x512x12288_S1x512x2048_0_0_2048)) (ix3 0 r k : S1x512x2048.Idx)
    = x0 (ix3 0 r ⟨2048 + k.val, by omega⟩ : S1x512x12288.Idx) := by
  refine congrArg x0 (funext fun a => Fin.ext ?_)
  match a with
  | ⟨0, _⟩ => rfl
  | ⟨1, _⟩ => show 0 + 1 * r.val = r.val; omega
  | ⟨2, _⟩ => show 2048 + 1 * k.val = 2048 + k.val; omega

/-- The weights' chunk at feature 2048, at an index. -/
theorem ldW2048 (k : Fin 2048) (j : Fin 256) : (View.ld x1 (Rect.unit ![2048, 0] S2048x256.size inb_S12288x256_S2048x256_2048_0)) (ix2 k j : S2048x256.Idx)
    = x1 (ix2 ⟨2048 + k.val, by omega⟩ j : S12288x256.Idx) := by
  refine congrArg x1 (funext fun a => Fin.ext ?_)
  match a with
  | ⟨0, _⟩ => show 2048 + 1 * k.val = 2048 + k.val; omega
  | ⟨1, _⟩ => show 0 + 1 * j.val = j.val; omega

/-- The product over the chunk at feature 2048 with the low nibbles. -/
theorem chunkLo2048 (r : Fin 512) (j : Fin 256) : chunkLo (View.ld x0 (Rect.unit ![0, 0, 2048] S1x512x2048.size inb_S1x512x12288_S1x512x2048_0_0_2048)) (View.ld x1 (Rect.unit ![2048, 0] S2048x256.size inb_S12288x256_S2048x256_2048_0)) r j
    = ∑ k : Fin 2048, ival (x0 (ix3 0 r ⟨2048 + k.val, by omega⟩)) * ival (lo (x1 (ix2 ⟨2048 + k.val, by omega⟩ j))) :=
  Finset.sum_congr rfl fun k _ => congrArg₂ (fun a b => ival a * ival (lo b)) (ldX2048 x0 r k) (ldW2048 x1 k j)

/-- The product over the chunk at feature 2048 with the high nibbles. -/
theorem chunkHi2048 (r : Fin 512) (j : Fin 256) : chunkHi (View.ld x0 (Rect.unit ![0, 0, 2048] S1x512x2048.size inb_S1x512x12288_S1x512x2048_0_0_2048)) (View.ld x1 (Rect.unit ![2048, 0] S2048x256.size inb_S12288x256_S2048x256_2048_0)) r j
    = ∑ k : Fin 2048, ival (x0 (ix3 0 r ⟨2048 + k.val, by omega⟩)) * ival (hi (x1 (ix2 ⟨2048 + k.val, by omega⟩ j))) :=
  Finset.sum_congr rfl fun k _ => congrArg₂ (fun a b => ival a * ival (hi b)) (ldX2048 x0 r k) (ldW2048 x1 k j)

/-- The codes' chunk at feature 4096, at an index. -/
theorem ldX4096 (r : Fin 512) (k : Fin 2048) : (View.ld x0 (Rect.unit ![0, 0, 4096] S1x512x2048.size inb_S1x512x12288_S1x512x2048_0_0_4096)) (ix3 0 r k : S1x512x2048.Idx)
    = x0 (ix3 0 r ⟨4096 + k.val, by omega⟩ : S1x512x12288.Idx) := by
  refine congrArg x0 (funext fun a => Fin.ext ?_)
  match a with
  | ⟨0, _⟩ => rfl
  | ⟨1, _⟩ => show 0 + 1 * r.val = r.val; omega
  | ⟨2, _⟩ => show 4096 + 1 * k.val = 4096 + k.val; omega

/-- The weights' chunk at feature 4096, at an index. -/
theorem ldW4096 (k : Fin 2048) (j : Fin 256) : (View.ld x1 (Rect.unit ![4096, 0] S2048x256.size inb_S12288x256_S2048x256_4096_0)) (ix2 k j : S2048x256.Idx)
    = x1 (ix2 ⟨4096 + k.val, by omega⟩ j : S12288x256.Idx) := by
  refine congrArg x1 (funext fun a => Fin.ext ?_)
  match a with
  | ⟨0, _⟩ => show 4096 + 1 * k.val = 4096 + k.val; omega
  | ⟨1, _⟩ => show 0 + 1 * j.val = j.val; omega

/-- The product over the chunk at feature 4096 with the low nibbles. -/
theorem chunkLo4096 (r : Fin 512) (j : Fin 256) : chunkLo (View.ld x0 (Rect.unit ![0, 0, 4096] S1x512x2048.size inb_S1x512x12288_S1x512x2048_0_0_4096)) (View.ld x1 (Rect.unit ![4096, 0] S2048x256.size inb_S12288x256_S2048x256_4096_0)) r j
    = ∑ k : Fin 2048, ival (x0 (ix3 0 r ⟨4096 + k.val, by omega⟩)) * ival (lo (x1 (ix2 ⟨4096 + k.val, by omega⟩ j))) :=
  Finset.sum_congr rfl fun k _ => congrArg₂ (fun a b => ival a * ival (lo b)) (ldX4096 x0 r k) (ldW4096 x1 k j)

/-- The product over the chunk at feature 4096 with the high nibbles. -/
theorem chunkHi4096 (r : Fin 512) (j : Fin 256) : chunkHi (View.ld x0 (Rect.unit ![0, 0, 4096] S1x512x2048.size inb_S1x512x12288_S1x512x2048_0_0_4096)) (View.ld x1 (Rect.unit ![4096, 0] S2048x256.size inb_S12288x256_S2048x256_4096_0)) r j
    = ∑ k : Fin 2048, ival (x0 (ix3 0 r ⟨4096 + k.val, by omega⟩)) * ival (hi (x1 (ix2 ⟨4096 + k.val, by omega⟩ j))) :=
  Finset.sum_congr rfl fun k _ => congrArg₂ (fun a b => ival a * ival (hi b)) (ldX4096 x0 r k) (ldW4096 x1 k j)

/-- The codes' chunk at feature 6144, at an index. -/
theorem ldX6144 (r : Fin 512) (k : Fin 2048) : (View.ld x0 (Rect.unit ![0, 0, 6144] S1x512x2048.size inb_S1x512x12288_S1x512x2048_0_0_6144)) (ix3 0 r k : S1x512x2048.Idx)
    = x0 (ix3 0 r ⟨6144 + k.val, by omega⟩ : S1x512x12288.Idx) := by
  refine congrArg x0 (funext fun a => Fin.ext ?_)
  match a with
  | ⟨0, _⟩ => rfl
  | ⟨1, _⟩ => show 0 + 1 * r.val = r.val; omega
  | ⟨2, _⟩ => show 6144 + 1 * k.val = 6144 + k.val; omega

/-- The weights' chunk at feature 6144, at an index. -/
theorem ldW6144 (k : Fin 2048) (j : Fin 256) : (View.ld x1 (Rect.unit ![6144, 0] S2048x256.size inb_S12288x256_S2048x256_6144_0)) (ix2 k j : S2048x256.Idx)
    = x1 (ix2 ⟨6144 + k.val, by omega⟩ j : S12288x256.Idx) := by
  refine congrArg x1 (funext fun a => Fin.ext ?_)
  match a with
  | ⟨0, _⟩ => show 6144 + 1 * k.val = 6144 + k.val; omega
  | ⟨1, _⟩ => show 0 + 1 * j.val = j.val; omega

/-- The product over the chunk at feature 6144 with the low nibbles. -/
theorem chunkLo6144 (r : Fin 512) (j : Fin 256) : chunkLo (View.ld x0 (Rect.unit ![0, 0, 6144] S1x512x2048.size inb_S1x512x12288_S1x512x2048_0_0_6144)) (View.ld x1 (Rect.unit ![6144, 0] S2048x256.size inb_S12288x256_S2048x256_6144_0)) r j
    = ∑ k : Fin 2048, ival (x0 (ix3 0 r ⟨6144 + k.val, by omega⟩)) * ival (lo (x1 (ix2 ⟨6144 + k.val, by omega⟩ j))) :=
  Finset.sum_congr rfl fun k _ => congrArg₂ (fun a b => ival a * ival (lo b)) (ldX6144 x0 r k) (ldW6144 x1 k j)

/-- The product over the chunk at feature 6144 with the high nibbles. -/
theorem chunkHi6144 (r : Fin 512) (j : Fin 256) : chunkHi (View.ld x0 (Rect.unit ![0, 0, 6144] S1x512x2048.size inb_S1x512x12288_S1x512x2048_0_0_6144)) (View.ld x1 (Rect.unit ![6144, 0] S2048x256.size inb_S12288x256_S2048x256_6144_0)) r j
    = ∑ k : Fin 2048, ival (x0 (ix3 0 r ⟨6144 + k.val, by omega⟩)) * ival (hi (x1 (ix2 ⟨6144 + k.val, by omega⟩ j))) :=
  Finset.sum_congr rfl fun k _ => congrArg₂ (fun a b => ival a * ival (hi b)) (ldX6144 x0 r k) (ldW6144 x1 k j)

/-- The codes' chunk at feature 8192, at an index. -/
theorem ldX8192 (r : Fin 512) (k : Fin 2048) : (View.ld x0 (Rect.unit ![0, 0, 8192] S1x512x2048.size inb_S1x512x12288_S1x512x2048_0_0_8192)) (ix3 0 r k : S1x512x2048.Idx)
    = x0 (ix3 0 r ⟨8192 + k.val, by omega⟩ : S1x512x12288.Idx) := by
  refine congrArg x0 (funext fun a => Fin.ext ?_)
  match a with
  | ⟨0, _⟩ => rfl
  | ⟨1, _⟩ => show 0 + 1 * r.val = r.val; omega
  | ⟨2, _⟩ => show 8192 + 1 * k.val = 8192 + k.val; omega

/-- The weights' chunk at feature 8192, at an index. -/
theorem ldW8192 (k : Fin 2048) (j : Fin 256) : (View.ld x1 (Rect.unit ![8192, 0] S2048x256.size inb_S12288x256_S2048x256_8192_0)) (ix2 k j : S2048x256.Idx)
    = x1 (ix2 ⟨8192 + k.val, by omega⟩ j : S12288x256.Idx) := by
  refine congrArg x1 (funext fun a => Fin.ext ?_)
  match a with
  | ⟨0, _⟩ => show 8192 + 1 * k.val = 8192 + k.val; omega
  | ⟨1, _⟩ => show 0 + 1 * j.val = j.val; omega

/-- The product over the chunk at feature 8192 with the low nibbles. -/
theorem chunkLo8192 (r : Fin 512) (j : Fin 256) : chunkLo (View.ld x0 (Rect.unit ![0, 0, 8192] S1x512x2048.size inb_S1x512x12288_S1x512x2048_0_0_8192)) (View.ld x1 (Rect.unit ![8192, 0] S2048x256.size inb_S12288x256_S2048x256_8192_0)) r j
    = ∑ k : Fin 2048, ival (x0 (ix3 0 r ⟨8192 + k.val, by omega⟩)) * ival (lo (x1 (ix2 ⟨8192 + k.val, by omega⟩ j))) :=
  Finset.sum_congr rfl fun k _ => congrArg₂ (fun a b => ival a * ival (lo b)) (ldX8192 x0 r k) (ldW8192 x1 k j)

/-- The product over the chunk at feature 8192 with the high nibbles. -/
theorem chunkHi8192 (r : Fin 512) (j : Fin 256) : chunkHi (View.ld x0 (Rect.unit ![0, 0, 8192] S1x512x2048.size inb_S1x512x12288_S1x512x2048_0_0_8192)) (View.ld x1 (Rect.unit ![8192, 0] S2048x256.size inb_S12288x256_S2048x256_8192_0)) r j
    = ∑ k : Fin 2048, ival (x0 (ix3 0 r ⟨8192 + k.val, by omega⟩)) * ival (hi (x1 (ix2 ⟨8192 + k.val, by omega⟩ j))) :=
  Finset.sum_congr rfl fun k _ => congrArg₂ (fun a b => ival a * ival (hi b)) (ldX8192 x0 r k) (ldW8192 x1 k j)

/-- The codes' chunk at feature 10240, at an index. -/
theorem ldX10240 (r : Fin 512) (k : Fin 2048) : (View.ld x0 (Rect.unit ![0, 0, 10240] S1x512x2048.size inb_S1x512x12288_S1x512x2048_0_0_10240)) (ix3 0 r k : S1x512x2048.Idx)
    = x0 (ix3 0 r ⟨10240 + k.val, by omega⟩ : S1x512x12288.Idx) := by
  refine congrArg x0 (funext fun a => Fin.ext ?_)
  match a with
  | ⟨0, _⟩ => rfl
  | ⟨1, _⟩ => show 0 + 1 * r.val = r.val; omega
  | ⟨2, _⟩ => show 10240 + 1 * k.val = 10240 + k.val; omega

/-- The weights' chunk at feature 10240, at an index. -/
theorem ldW10240 (k : Fin 2048) (j : Fin 256) : (View.ld x1 (Rect.unit ![10240, 0] S2048x256.size inb_S12288x256_S2048x256_10240_0)) (ix2 k j : S2048x256.Idx)
    = x1 (ix2 ⟨10240 + k.val, by omega⟩ j : S12288x256.Idx) := by
  refine congrArg x1 (funext fun a => Fin.ext ?_)
  match a with
  | ⟨0, _⟩ => show 10240 + 1 * k.val = 10240 + k.val; omega
  | ⟨1, _⟩ => show 0 + 1 * j.val = j.val; omega

/-- The product over the chunk at feature 10240 with the low nibbles. -/
theorem chunkLo10240 (r : Fin 512) (j : Fin 256) : chunkLo (View.ld x0 (Rect.unit ![0, 0, 10240] S1x512x2048.size inb_S1x512x12288_S1x512x2048_0_0_10240)) (View.ld x1 (Rect.unit ![10240, 0] S2048x256.size inb_S12288x256_S2048x256_10240_0)) r j
    = ∑ k : Fin 2048, ival (x0 (ix3 0 r ⟨10240 + k.val, by omega⟩)) * ival (lo (x1 (ix2 ⟨10240 + k.val, by omega⟩ j))) :=
  Finset.sum_congr rfl fun k _ => congrArg₂ (fun a b => ival a * ival (lo b)) (ldX10240 x0 r k) (ldW10240 x1 k j)

/-- The product over the chunk at feature 10240 with the high nibbles. -/
theorem chunkHi10240 (r : Fin 512) (j : Fin 256) : chunkHi (View.ld x0 (Rect.unit ![0, 0, 10240] S1x512x2048.size inb_S1x512x12288_S1x512x2048_0_0_10240)) (View.ld x1 (Rect.unit ![10240, 0] S2048x256.size inb_S12288x256_S2048x256_10240_0)) r j
    = ∑ k : Fin 2048, ival (x0 (ix3 0 r ⟨10240 + k.val, by omega⟩)) * ival (hi (x1 (ix2 ⟨10240 + k.val, by omega⟩ j))) :=
  Finset.sum_congr rfl fun k _ => congrArg₂ (fun a b => ival a * ival (hi b)) (ldX10240 x0 r k) (ldW10240 x1 k j)

/-- The accumulator of the even columns, at an index: the product over all the features. -/
theorem accLo_apply (r : Fin 512) (j : Fin 256) :
    accLo x0 x1 (ix2 r j) = dot (fun k => x0 (ix3 0 r k)) (fun k => lo (x1 (ix2 k j))) := by
  unfold accLo
  rw [lo5, lo4, lo3, lo2, lo1, lo0]
  unfold dot
  rw [sum_chunks]
  rw [chunkLo0, chunkLo2048, chunkLo4096, chunkLo6144, chunkLo8192, chunkLo10240]

/-- The accumulator of the odd columns, at an index: the product over all the features. -/
theorem accHi_apply (r : Fin 512) (j : Fin 256) :
    accHi x0 x1 (ix2 r j) = dot (fun k => x0 (ix3 0 r k)) (fun k => hi (x1 (ix2 k j))) := by
  unfold accHi
  rw [hi5, hi4, hi3, hi2, hi1, hi0]
  unfold dot
  rw [sum_chunks]
  rw [chunkHi0, chunkHi2048, chunkHi4096, chunkHi6144, chunkHi8192, chunkHi10240]

end

end Cert.KernelIdeal.Val
-- ==== Proof.MatEpi.lean ====
/-
  The second region's epilogue at an index: the two accumulators interleaved column by column, then scaled, biased and
  gated; so what a point leaves at column `n` of its output block is the product of the row of codes with the nibbles of
  column `n`, through the epilogue.
-/
module

public import proofs.«01_k».proof.Proof.MatAcc

@[expose] public section

set_option maxRecDepth 16384

noncomputable section

namespace Cert.KernelIdeal.Val

open Cert.KernelIdeal Cert.KernelIdeal.Gen
open Idealize.ShloMosaic Idealize.ShloMosaic.TcCoe Idealize.SL.Sem
open Cert.Spec

/-- The lane to gather from for a lane `n` of the left half of an interleaving: half of it. -/
theorem lane_left (n : ℕ) (h : n < 128) :
    (Scalar.select (IntOp.cmpi CmpIPredicate.slt (IntOp.addi (IntOp.shrsi ArithUnit.vector (BitVec.ofNat 32 n) 1#32) 0#32) 0#32)
      (IntOp.addi (IntOp.addi (IntOp.shrsi ArithUnit.vector (BitVec.ofNat 32 n) 1#32) 0#32) 128#32)
      (IntOp.addi (IntOp.shrsi ArithUnit.vector (BitVec.ofNat 32 n) 1#32) 0#32)).toNat % 128 = n / 2 := by
  have H : ∀ i : Fin 128, (Scalar.select (IntOp.cmpi CmpIPredicate.slt (IntOp.addi (IntOp.shrsi ArithUnit.vector (BitVec.ofNat 32 i.val) 1#32) 0#32) 0#32)
      (IntOp.addi (IntOp.addi (IntOp.shrsi ArithUnit.vector (BitVec.ofNat 32 i.val) 1#32) 0#32) 128#32)
      (IntOp.addi (IntOp.shrsi ArithUnit.vector (BitVec.ofNat 32 i.val) 1#32) 0#32)).toNat % 128 = i.val / 2 := by decide +kernel
  exact H ⟨n, h⟩

/-- The lane to gather from for a lane `n` of the right half: 64 past half of it. -/
theorem lane_right (n : ℕ) (h : n < 128) :
    (Scalar.select (IntOp.cmpi CmpIPredicate.slt (IntOp.addi (IntOp.shrsi ArithUnit.vector (BitVec.ofNat 32 n) 1#32) 64#32) 0#32)
      (IntOp.addi (IntOp.addi (IntOp.shrsi ArithUnit.vector (BitVec.ofNat 32 n) 1#32) 64#32) 128#32)
      (IntOp.addi (IntOp.shrsi ArithUnit.vector (BitVec.ofNat 32 n) 1#32) 64#32)).toNat % 128 = n / 2 + 64 := by
  have H : ∀ i : Fin 128, (Scalar.select (IntOp.cmpi CmpIPredicate.slt (IntOp.addi (IntOp.shrsi ArithUnit.vector (BitVec.ofNat 32 i.val) 1#32) 64#32) 0#32)
      (IntOp.addi (IntOp.addi (IntOp.shrsi ArithUnit.vector (BitVec.ofNat 32 i.val) 1#32) 64#32) 128#32)
      (IntOp.addi (IntOp.shrsi ArithUnit.vector (BitVec.ofNat 32 i.val) 1#32) 64#32)).toNat % 128 = i.val / 2 + 64 := by decide +kernel
  exact H ⟨n, h⟩

/-- The selection by a lane's parity. -/
theorem lane_parity {α : Type} (n : ℕ) (h : n < 128) (x y : α) :
    Scalar.select (IntOp.cmpi CmpIPredicate.eq (IntOp.andi (BitVec.ofNat 32 n) 1#32) 0#32) x y = if n % 2 = 0 then x else y := by
  have H : ∀ i : Fin 128, IntOp.cmpi CmpIPredicate.eq (IntOp.andi (BitVec.ofNat 32 i.val) 1#32) 0#32 = if i.val % 2 = 0 then 1#1 else 0#1 := by
    decide +kernel
  rw [H ⟨n, h⟩]
  show Scalar.select (if n % 2 = 0 then 1#1 else 0#1) x y = _
  split <;> rfl

/-- The column to gather from for column `j` of an interleaving of two blocks of 128: half of it. -/
def halfCol (j : Fin 256) : Fin 128 := ⟨j.val / 2, by omega⟩

/-- The left half's interleaving and its first scale, at an index. -/
theorem pay33_apply (hs : FVec Ideal S512x1 .f32) (a b : Vec Ideal S512x128 .f32) (r : Fin 512) (j : Fin 256) :
    k1_pay33 hs a b (iota Kind.tc S512x128 32 [1] iota_S512x128_d1_w32) k1_pay31 k1_pay32 (ix2 r j)
      = (if j.val % 2 = 0 then a (ix2 r (halfCol j)) else b (ix2 r (halfCol j))) * hs (ix2 r 0) := by
  have hj := j.isLt
  pointwise [k1_pay33, k1_pay31, k1_pay32]
  congr 1
  split
  · rename_i h
    rw [lane_parity _ h]
    have e : ∀ hh, (⟨_, hh⟩ : Fin 128) = halfCol j := fun hh => Fin.ext (lane_left j.val h)
    rw [e]
  · rename_i h
    have h' : j.val - 128 < 128 := by omega
    rw [lane_parity _ h']
    have e : ∀ hh, (⟨_, hh⟩ : Fin 128) = halfCol j := fun hh => Fin.ext ((lane_right (j.val - 128) h').trans (by show _ = j.val / 2; omega))
    rw [e]
    congr 1
    exact propext ⟨fun h => by omega, fun h => by omega⟩

/-- The left half of the output block, from its interleaved and scaled product, at an index. -/
theorem pay35_apply (d : FVec Ideal S512x256 .f32) (ws : Vec Ideal S1x256 .f32) (b : Vec Ideal S1x256 .bf16) (g : Vec Ideal S1x1x256 .bf16)
    (z : Fin 1) (r : Fin 512) (j : Fin 256) :
    k1_pay35 d (k1_pay34 ws) b g (ix3 z r j) = (d (ix2 r j) * ws (ix2 0 j) + b (ix2 0 j)) * g (ix3 0 0 j) := by
  pointwise [k1_pay35, k1_pay34]

/-- The right half of the output block, at an index. -/
theorem pay41_apply (hs : FVec Ideal S512x1 .f32) (a a' : Vec Ideal S512x128 .f32) (ws : Vec Ideal S1x256 .f32) (b : Vec Ideal S1x256 .bf16)
    (g : Vec Ideal S1x1x256 .bf16) (z : Fin 1) (r : Fin 512) (j : Fin 256) :
    k1_pay41 hs a a' k1_pay36 k1_pay37 (k1_pay39 a) k1_pay40 ws b g (ix3 z r j)
      = ((if j.val % 2 = 0 then a (ix2 r (halfCol j)) else a' (ix2 r (halfCol j))) * hs (ix2 r 0) * ws (ix2 0 j) + b (ix2 0 j)) * g (ix3 0 0 j) := by
  have hj := j.isLt
  pointwise [k1_pay41, k1_pay36, k1_pay37, k1_pay38, k1_pay39, k1_pay40]
  congr 4
  split
  · rename_i h
    rw [lane_parity _ h]
    have e : ∀ hh, (⟨_, hh⟩ : Fin 128) = halfCol j := fun hh => Fin.ext (lane_left j.val h)
    rw [e]
  · rename_i h
    have h' : j.val - 128 < 128 := by omega
    rw [lane_parity _ h']
    have e : ∀ hh, (⟨_, hh⟩ : Fin 128) = halfCol j := fun hh => Fin.ext ((lane_right (j.val - 128) h').trans (by show _ = j.val / 2; omega))
    rw [e]
    congr 1
    exact propext ⟨fun h => by omega, fun h => by omega⟩

end Cert.KernelIdeal.Val
-- ==== Proof.MatVal.lean ====
/-
  The second region's result array: what a point leaves at an index of its output block is the layer's product and
  epilogue for that row and column of the arrays the region is entered with, so after the region the array is that function.
-/
module

public import proofs.«01_k».proof.Proof.MatEpi
public import Idealize.ShloMosaic.Lib.Pipeline.ValueKit.Geometry

@[expose] public section

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat)
open Cert.Spec

/-- The byte column that packs column `n` of a block of the output. -/
def packCol (n : Fin 512) : Fin 256 := ⟨n.val / 2, by omega⟩

/-- A load of half the columns of an accumulator, at an index. -/
theorem ldAcc0 (P : Vec Ideal S512x256 .f32) (r : Fin 512) (q : Fin 128) :
    View.ld P (Rect.unit ![0, 0] S512x128.size inb_S512x256_S512x128_0_0) (ix2 r q : S512x128.Idx) = P (ix2 r ⟨q.val, by omega⟩ : S512x256.Idx) := by
  refine congrArg P (funext fun a => Fin.ext ?_)
  match a with
  | ⟨0, _⟩ => show 0 + 1 * r.val = r.val; omega
  | ⟨1, _⟩ => show 0 + 1 * q.val = q.val; omega

/-- A load of the other half, at an index. -/
theorem ldAcc1 (P : Vec Ideal S512x256 .f32) (r : Fin 512) (q : Fin 128) :
    View.ld P (Rect.unit ![0, 128] S512x128.size inb_S512x256_S512x128_0_128) (ix2 r q : S512x128.Idx) = P (ix2 r ⟨128 + q.val, by omega⟩ : S512x256.Idx) := by
  refine congrArg P (funext fun a => Fin.ext ?_)
  match a with
  | ⟨0, _⟩ => show 0 + 1 * r.val = r.val; omega
  | ⟨1, _⟩ => show 128 + 1 * q.val = 128 + q.val; omega

/-- The row operands' loads, at an index. -/
theorem ldRow {e : EltTy} (P : Vec Ideal S1x512 e) (o : ℕ) (inb : ∀ a, (![0, o] : Fin 2 → Nat) a + S1x256.size a ≤ S1x512.size a) (j : Fin 256) (h : o + j.val < 512) :
    View.ld P (Rect.unit (s := S1x512) ![0, o] S1x256.size inb) (ix2 0 j : S1x256.Idx) = P (ix2 0 ⟨o + j.val, h⟩ : S1x512.Idx) := by
  refine congrArg P (funext fun a => Fin.ext ?_)
  match a with
  | ⟨0, _⟩ => rfl
  | ⟨1, _⟩ => show o + 1 * j.val = o + j.val; omega

/-- The gate's loads, at an index. -/
theorem ldGate (P : Vec Ideal S1x1x512 .bf16) (o : ℕ) (inb : ∀ a, (![0, 0, o] : Fin 3 → Nat) a + S1x1x256.size a ≤ S1x1x512.size a) (j : Fin 256) (h : o + j.val < 512) :
    View.ld P (Rect.unit (s := S1x1x512) ![0, 0, o] S1x1x256.size inb) (ix3 0 0 j : S1x1x256.Idx) = P (ix3 0 0 ⟨o + j.val, h⟩ : S1x1x512.Idx) := by
  refine congrArg P (funext fun a => Fin.ext ?_)
  match a with
  | ⟨0, _⟩ => rfl
  | ⟨1, _⟩ => rfl
  | ⟨2, _⟩ => show o + 1 * j.val = o + j.val; omega

/-- The token scales of a block as a column. -/
theorem pay30_apply (x2 : Vec Ideal S1x512x1 .f32) (r : Fin 512) : k1_pay30 x2 (ix2 r 0) = x2 (ix3 0 r 0) := by
  pointwise [k1_pay30]

/-- What a block of the output holds at row `r` and column `n`, from the point's blocks. -/
def cell (x0 : Vec Ideal S1x512x12288 .i8) (x1 : Vec Ideal S12288x256 .i8) (x2 : Vec Ideal S1x512x1 .f32)
    (x3 : Vec Ideal S1x512 .f32) (x4 : Vec Ideal S1x512 .bf16) (x5 : Vec Ideal S1x1x512 .bf16) (r n : Fin 512) : EReal :=
  epilogue (dot (fun k => x0 (ix3 0 r k)) (fun k => nib n.val (x1 (ix2 k (packCol n)))))
    (x2 (ix3 0 r 0)) (x3 (ix2 0 n)) (x4 (ix2 0 n)) (x5 (ix3 0 0 n))

section
variable (x0 : Vec Ideal S1x512x12288 .i8) (x1 : Vec Ideal S12288x256 .i8) (x2 : Vec Ideal S1x512x1 .f32)
    (x3 : Vec Ideal S1x512 .f32) (x4 : Vec Ideal S1x512 .bf16) (x5 : Vec Ideal S1x1x512 .bf16)

/-- The choice of accumulator by a column's parity is the product with that column's nibbles. -/
theorem acc_select (r n : Fin 512) :
    (if n.val % 2 = 0 then accLo x0 x1 (ix2 r (packCol n)) else accHi x0 x1 (ix2 r (packCol n)))
      = dot (fun k => x0 (ix3 0 r k)) (fun k => nib n.val (x1 (ix2 k (packCol n)))) := by
  rw [accLo_apply, accHi_apply]
  unfold nib
  split <;> rfl

/-- The left half of the output block, at an index. -/
theorem outL_apply (z : Fin 1) (r : Fin 512) (j : Fin 256) :
    outL x0 x1 x2 x3 x4 x5 (ix3 z r j) = cell x0 x1 x2 x3 x4 x5 r ⟨0 + j.val, by omega⟩ := by
  unfold outL
  rw [pay35_apply, pay33_apply, ldAcc0, ldAcc0, ldRow (o := 0) (h := by omega), ldRow (o := 0) (h := by omega), ldGate (o := 0) (h := by omega), pay30_apply]
  unfold cell epilogue
  rw [← acc_select]
  have e : (⟨(halfCol j).val, by have := (halfCol j).isLt; omega⟩ : Fin 256) = packCol ⟨0 + j.val, by omega⟩ := Fin.ext (by show j.val / 2 = (0 + j.val) / 2; omega)
  rw [e]
  have p : (j.val % 2 = 0) = ((0 + j.val) % 2 = 0) := by rw [Nat.zero_add]
  simp only [p]

/-- The right half of the output block, at an index. -/
theorem outR_apply (z : Fin 1) (r : Fin 512) (j : Fin 256) :
    outR x0 x1 x2 x3 x4 x5 (ix3 z r j) = cell x0 x1 x2 x3 x4 x5 r ⟨256 + j.val, by omega⟩ := by
  unfold outR
  rw [pay41_apply, ldAcc1, ldAcc1, ldRow (o := 256) (h := by omega), ldRow (o := 256) (h := by omega), ldGate (o := 256) (h := by omega), pay30_apply]
  unfold cell epilogue
  rw [← acc_select]
  have e : (⟨128 + (halfCol j).val, by have := (halfCol j).isLt; omega⟩ : Fin 256) = packCol ⟨256 + j.val, by omega⟩ :=
    Fin.ext (by show 128 + j.val / 2 = (256 + j.val) / 2; omega)
  rw [e]
  have p : (j.val % 2 = 0) = ((256 + j.val) % 2 = 0) := propext ⟨fun h => by omega, fun h => by omega⟩
  simp only [p]

end

/-- What a point of the second region leaves in the output's buffer, at an index. -/
theorem out1_apply (c : Dev nD) (i : grid1.Coords) (arg3 : Memref sig .tc .vmem S1x512x12288 .i8) (harg3 : arg3.IsWhole) (arg4 : Memref sig .tc .vmem S12288x256 .i8) (harg4 : arg4.IsWhole) (arg5 : Memref sig .tc .vmem S1x512x1 .f32) (harg5 : arg5.IsWhole) (arg6 : Memref sig .tc .vmem S1x512 .f32) (harg6 : arg6.IsWhole) (arg7 : Memref sig .tc .vmem S1x512 .bf16) (harg7 : arg7.IsWhole) (arg8 : Memref sig .tc .vmem S1x1x512 .bf16) (harg8 : arg8.IsWhole)
    (arg9 : Memref sig .tc .vmem S1x512x512 .bf16) (harg9 : arg9.IsWhole) (arg10 : Memref sig .tc .vmem S512x256 .f32) (harg10 : arg10.IsWhole) (arg11 : Memref sig .tc .vmem S512x256 .f32) (harg11 : arg11.IsWhole)
    (x0 : Vec Ideal S1x512x12288 .i8) (x1 : Vec Ideal S12288x256 .i8) (x2 : Vec Ideal S1x512x1 .f32) (x3 : Vec Ideal S1x512 .f32) (x4 : Vec Ideal S1x512 .bf16) (x5 : Vec Ideal S1x1x512 .bf16)
    (z : Fin 1) (r n : Fin 512) :
    out1_A_6 c i arg3 harg3 arg4 harg4 arg5 harg5 arg6 harg6 arg7 harg7 arg8 harg8 arg9 harg9 arg10 harg10 arg11 harg11 x0 x1 x2 x3 x4 x5 (ix3 z r n : S1x512x512.Idx)
      = cell x0 x1 x2 x3 x4 x5 r n := by
  rw [out1_open]
  by_cases h : n.val < 256
  · have hn : (ix3 z r n : S1x512x512.Idx)
        ∉ (Rect.unit (s := S1x512x512) ![0, 0, 256] S1x512x256.size inb_S1x512x512_S1x512x256_0_0_256).set := by
      rw [Rect.mem_set_unit]
      intro hm
      have : 256 ≤ n.val := (hm 2).1
      omega
    refine (View.canon_cons_of_not_mem _ _ ?_).trans ?_
    · exact hn
    have e : (ix3 z r n : S1x512x512.Idx)
        = (Rect.unit (s := S1x512x512) ![0, 0, 0] S1x512x256.size inb_S1x512x512_S1x512x256_0_0_0).emb (ix3 z r ⟨n.val, h⟩ : S1x512x256.Idx) := by
      refine funext fun a => Fin.ext ?_
      match a with
      | ⟨0, _⟩ => show z.val = 0 + 1 * z.val; omega
      | ⟨1, _⟩ => show r.val = 0 + 1 * r.val; omega
      | ⟨2, _⟩ => show n.val = 0 + 1 * n.val; omega
    rw [e, View.canon_cons_emb]
    refine (outL_apply x0 x1 x2 x3 x4 x5 z r ⟨n.val, h⟩).trans ?_
    exact congrArg (cell x0 x1 x2 x3 x4 x5 r) (Fin.ext (Nat.zero_add _))
  · have hb : n.val - 256 < 256 := by omega
    have e : (ix3 z r n : S1x512x512.Idx)
        = (Rect.unit (s := S1x512x512) ![0, 0, 256] S1x512x256.size inb_S1x512x512_S1x512x256_0_0_256).emb (ix3 z r ⟨n.val - 256, hb⟩ : S1x512x256.Idx) := by
      refine funext fun a => Fin.ext ?_
      match a with
      | ⟨0, _⟩ => show z.val = 0 + 1 * z.val; omega
      | ⟨1, _⟩ => show r.val = 0 + 1 * r.val; omega
      | ⟨2, _⟩ => show n.val = 256 + 1 * (n.val - 256); omega
    rw [e, View.canon_cons_emb]
    refine (outR_apply x0 x1 x2 x3 x4 x5 z r ⟨n.val - 256, hb⟩).trans ?_
    exact congrArg (cell x0 x1 x2 x3 x4 x5 r) (Fin.ext (by show 256 + (n.val - 256) = n.val; omega))

/-! ## The windows of the second region -/

variable (V : (c : Dev nD) → (b : Ref sig .tc) → Buf (Elt Ideal) ((c : Thread nD τ).loc b))

/-- Point `t` of the 2 × 2 × 10 grid has coordinates `t / 20`, `t / 10 % 2` and `t % 10`: each window's block index there. -/
theorem idx1 : ∀ t : Fin cfg1.N,
    (win1_0.index t 0 = t.val / 20 ∧ win1_0.index t 1 = t.val / 10 % 2 ∧ win1_0.index t 2 = 0)
    ∧ (win1_1.index t 0 = 0 ∧ win1_1.index t 1 = t.val % 10)
    ∧ (win1_2.index t 0 = t.val / 20 ∧ win1_2.index t 1 = t.val / 10 % 2 ∧ win1_2.index t 2 = 0)
    ∧ (win1_3.index t 0 = 0 ∧ win1_3.index t 1 = t.val % 10)
    ∧ (win1_4.index t 0 = 0 ∧ win1_4.index t 1 = t.val % 10)
    ∧ (win1_5.index t 0 = t.val / 20 ∧ win1_5.index t 1 = 0 ∧ win1_5.index t 2 = t.val % 10)
    ∧ (win1_6.index t 0 = t.val / 20 ∧ win1_6.index t 1 = t.val / 10 % 2 ∧ win1_6.index t 2 = t.val % 10) := by
  decide +kernel

/-- The batch of a point of the second region. -/
def bat1 (t : Fin cfg1.N) : Fin 2 := ⟨t.val / 20, by have := t.isLt; have h : cfg1.N = 40 := N_1; omega⟩
/-- The row of the array at row `r` of a point's block in the second region. -/
def row1 (t : Fin cfg1.N) (r : Fin 512) : Fin 1024 := ⟨t.val / 10 % 2 * 512 + r.val, by have := r.isLt; omega⟩
/-- The output column of the array at column `n` of a point's block. -/
def col1 (t : Fin cfg1.N) (n : Fin 512) : Fin 5120 := ⟨t.val % 10 * 512 + n.val, by have := n.isLt; omega⟩
/-- The byte column of the array at byte column `q` of a point's block. -/
def byte1 (t : Fin cfg1.N) (q : Fin 256) : Fin 2560 := ⟨t.val % 10 * 256 + q.val, by have := q.isLt; omega⟩

/-- A block of codes, at an index. -/
theorem blk1_0_apply (c : Dev nD) (t : Fin cfg1.N) (r : Fin 512) (k : Fin 12288) :
    iblk1 V c 0 t (ix3 0 r k : S1x512x12288.Idx) = V c main_v2_0 (ix3 (bat1 t) (row1 t r) k : S2x1024x12288.Idx) := by
  have hi := (idx1 t).1
  unfold iblk1
  rw [View.read_apply]
  refine congrArg (V c main_v2_0) (funext fun a => Fin.ext ?_)
  match a with
  | ⟨0, _⟩ => show win1_0.index t 0 * 1 + 1 * 0 = t.val / 20; rw [hi.1]; omega
  | ⟨1, _⟩ => show win1_0.index t 1 * 512 + 1 * r.val = t.val / 10 % 2 * 512 + r.val; rw [hi.2.1]; omega
  | ⟨2, _⟩ => show win1_0.index t 2 * 12288 + 1 * k.val = k.val; rw [hi.2.2]; omega

/-- A block of packed weights, at an index. -/
theorem blk1_1_apply (c : Dev nD) (t : Fin cfg1.N) (k : Fin 12288) (q : Fin 256) :
    iblk1 V c 1 t (ix2 k q : S12288x256.Idx) = V c main_arg4 (ix2 k (byte1 t q) : S12288x2560.Idx) := by
  have hi := (idx1 t).2.1
  unfold iblk1
  rw [View.read_apply]
  refine congrArg (V c main_arg4) (funext fun a => Fin.ext ?_)
  match a with
  | ⟨0, _⟩ => show win1_1.index t 0 * 12288 + 1 * k.val = k.val; rw [hi.1]; omega
  | ⟨1, _⟩ => show win1_1.index t 1 * 256 + 1 * q.val = t.val % 10 * 256 + q.val; rw [hi.2]; omega

/-- A block of token scales, at an index. -/
theorem blk1_2_apply (c : Dev nD) (t : Fin cfg1.N) (r : Fin 512) :
    iblk1 V c 2 t (ix3 0 r 0 : S1x512x1.Idx) = V c main_v2_1 (ix3 (bat1 t) (row1 t r) 0 : S2x1024x1.Idx) := by
  have hi := (idx1 t).2.2.1
  unfold iblk1
  rw [View.read_apply]
  refine congrArg (V c main_v2_1) (funext fun a => Fin.ext ?_)
  match a with
  | ⟨0, _⟩ => show win1_2.index t 0 * 1 + 1 * 0 = t.val / 20; rw [hi.1]; omega
  | ⟨1, _⟩ => show win1_2.index t 1 * 512 + 1 * r.val = t.val / 10 % 2 * 512 + r.val; rw [hi.2.1]; omega
  | ⟨2, _⟩ => show win1_2.index t 2 * 1 + 1 * 0 = 0; rw [hi.2.2]

/-- A block of weight scales, at an index. -/
theorem blk1_3_apply (c : Dev nD) (t : Fin cfg1.N) (n : Fin 512) :
    iblk1 V c 3 t (ix2 0 n : S1x512.Idx) = V c main_v3 (ix2 0 (col1 t n) : S1x5120.Idx) := by
  have hi := (idx1 t).2.2.2.1
  unfold iblk1
  rw [View.read_apply]
  refine congrArg (V c main_v3) (funext fun a => Fin.ext ?_)
  match a with
  | ⟨0, _⟩ => show win1_3.index t 0 * 1 + 1 * 0 = 0; rw [hi.1]
  | ⟨1, _⟩ => show win1_3.index t 1 * 512 + 1 * n.val = t.val % 10 * 512 + n.val; rw [hi.2]; omega

/-- A block of biases, at an index. -/
theorem blk1_4_apply (c : Dev nD) (t : Fin cfg1.N) (n : Fin 512) :
    iblk1 V c 4 t (ix2 0 n : S1x512.Idx) = V c main_v4 (ix2 0 (col1 t n) : S1x5120.Idx) := by
  have hi := (idx1 t).2.2.2.2.1
  unfold iblk1
  rw [View.read_apply]
  refine congrArg (V c main_v4) (funext fun a => Fin.ext ?_)
  match a with
  | ⟨0, _⟩ => show win1_4.index t 0 * 1 + 1 * 0 = 0; rw [hi.1]
  | ⟨1, _⟩ => show win1_4.index t 1 * 512 + 1 * n.val = t.val % 10 * 512 + n.val; rw [hi.2]; omega

/-- A block of gates, at an index. -/
theorem blk1_5_apply (c : Dev nD) (t : Fin cfg1.N) (n : Fin 512) :
    iblk1 V c 5 t (ix3 0 0 n : S1x1x512.Idx) = V c main_v5 (ix3 (bat1 t) 0 (col1 t n) : S2x1x5120.Idx) := by
  have hi := (idx1 t).2.2.2.2.2.1
  unfold iblk1
  rw [View.read_apply]
  refine congrArg (V c main_v5) (funext fun a => Fin.ext ?_)
  match a with
  | ⟨0, _⟩ => show win1_5.index t 0 * 1 + 1 * 0 = t.val / 20; rw [hi.1]; omega
  | ⟨1, _⟩ => show win1_5.index t 1 * 1 + 1 * 0 = 0; rw [hi.2.1]
  | ⟨2, _⟩ => show win1_5.index t 2 * 512 + 1 * n.val = t.val % 10 * 512 + n.val; rw [hi.2.2]; omega

/-- The second region's result, as one function of the arrays it is entered with. -/
def product (c : Dev nD) : Buf (Elt Ideal) ((c : Thread nD τ).loc main_v6) :=
  fun (i : S2x1024x5120.Idx) =>
    epilogue (dot (fun k => V c main_v2_0 (ix3 (i 0) (i 1) k : S2x1024x12288.Idx)) (fun k => nib (i 2).val (V c main_arg4 (ix2 k (byteCol (i 2)) : S12288x2560.Idx))))
      (V c main_v2_1 (ix3 (i 0) (i 1) 0 : S2x1024x1.Idx)) (V c main_v3 (ix2 0 (i 2) : S1x5120.Idx)) (V c main_v4 (ix2 0 (i 2) : S1x5120.Idx))
      (V c main_v5 (ix3 (i 0) 0 (i 2) : S2x1x5120.Idx))

/-- What a point writes back of the result is the result under its block. -/
theorem flushed1_6 (c : Dev nD) (t : Fin cfg1.N) :
    (dat1 V c).flushed 6 t = (win1_6.blk t).view.read (Elt Ideal) (product V c) := by
  have hi := (idx1 t).2.2.2.2.2.2
  show (cfg1.win 6).cut (grid1.coords t) ((dat1 V c).after 6 t) = _
  rw [after1_6]
  unfold outsAt1
  funext j
  obtain ⟨b, r, n, rfl⟩ : ∃ (b : Fin 1) (r : Fin 512) (n : Fin 512), j = (ix3 b r n : S1x512x512.Idx) := ⟨j 0, j 1, j 2, eq_ix3 j⟩
  refine (out1_apply _ _ _ _ _ _ _ _ _ _ _ _ _ _ _ _ _ _ _ _ _ _ _ _ _ _ b r n).trans ?_
  unfold cell
  simp only [blk1_0_apply, blk1_1_apply, blk1_2_apply, blk1_3_apply, blk1_4_apply, blk1_5_apply]
  rw [View.read_apply]
  have e : ((win1_6.blk t).view.emb (ix3 b r n : S1x512x512.Idx)) = (ix3 (bat1 t) (row1 t r) (col1 t n) : S2x1024x5120.Idx) := by
    refine funext fun a => Fin.ext ?_
    match a with
    | ⟨0, _⟩ => show win1_6.index t 0 * 1 + 1 * b.val = t.val / 20; rw [hi.1]; omega
    | ⟨1, _⟩ => show win1_6.index t 1 * 512 + 1 * r.val = t.val / 10 % 2 * 512 + r.val; rw [hi.2.1]; omega
    | ⟨2, _⟩ => show win1_6.index t 2 * 512 + 1 * n.val = t.val % 10 * 512 + n.val; rw [hi.2.2]; omega
  rw [e]
  have hb : byte1 t (packCol n) = byteCol (col1 t n) :=
    Fin.ext (by show t.val % 10 * 256 + n.val / 2 = (t.val % 10 * 512 + n.val) / 2; omega)
  have hp : nib n.val = nib (col1 t n).val := by
    funext w
    unfold nib
    have : (n.val % 2 = 0) = ((col1 t n).val % 2 = 0) :=
      propext (by show n.val % 2 = 0 ↔ (t.val % 10 * 512 + n.val) % 2 = 0; omega)
    simp only [this]
  rw [hb, hp]
  rfl

/-- After the second region the result array holds the layer's product. -/
theorem arr1_6 (c : Dev nD) : (dat1 V c).arrAt 6 cfg1.N = product V c :=
  (dat1 V c).arrAt_eq_of_cover 6 _ (fun t _ => flushed1_6 V c t)
    ((by decide +kernel : (cfg1.win 6).Covers).cover _ (Memref.isWhole_whole _))

end Cert.KernelIdeal.Val
-- ==== Proof.KVal.lean ====
/-
  The kernel program's three results as functions of its arguments: the host operations between the two regions are
  reads with a unit axis inserted or removed, so each result array is the layer's mathematics (`Spec`) of the arguments.
-/
module

public import proofs.«01_k».proof.Proof.KRun
public import proofs.«01_k».proof.Proof.Quant
public import proofs.«01_k».proof.Proof.MatVal

@[expose] public section

set_option maxRecDepth 16384

noncomputable section

namespace Cert.KernelIdeal.Val

open Cert.KernelIdeal Cert.KernelIdeal.Gen
open Idealize.ShloMosaic Idealize.ShloMosaic.TcCoe Idealize.ShloMosaic.Tactic Idealize.SL.Sem
open Idealize.ShloMosaic.Pipeline (Dat)
open Cert.Spec

variable (m : (ℓ : Loc nD τ sig) → Buf (Elt Ideal) ℓ) (ρ : Dev nD → PrngReg)

/-- The activations, by coordinates. -/
def argX (c : Dev nD) (b : Fin 2) (s : Fin 1024) : Row := fun k => m ((c.tc : Thread nD τ).loc main_arg0) (ix3 b s k : S2x1024x12288.Idx)
/-- The shifts, by coordinates. -/
def argSh (c : Dev nD) (b : Fin 2) : Row := fun k => m ((c.tc : Thread nD τ).loc main_arg1) (ix2 b k : S2x12288.Idx)
/-- The modulation scales, by coordinates. -/
def argSc (c : Dev nD) (b : Fin 2) : Row := fun k => m ((c.tc : Thread nD τ).loc main_arg2) (ix2 b k : S2x12288.Idx)
/-- The gates, by coordinates. -/
def argG (c : Dev nD) (b : Fin 2) (n : Fin 5120) : EReal := m ((c.tc : Thread nD τ).loc main_arg3) (ix2 b n : S2x5120.Idx)
/-- The packed weights, by coordinates. -/
def argW (c : Dev nD) (k : Fin 12288) (q : Fin 2560) : BitVec 8 := m ((c.tc : Thread nD τ).loc main_arg4) (ix2 k q : S12288x2560.Idx)
/-- The weight scales, by coordinates. -/
def argWs (c : Dev nD) (n : Fin 5120) : EReal := m ((c.tc : Thread nD τ).loc main_arg5) (ix1 n : S5120.Idx)
/-- The biases, by coordinates. -/
def argB (c : Dev nD) (n : Fin 5120) : EReal := m ((c.tc : Thread nD τ).loc main_arg6) (ix1 n : S5120.Idx)

/-! ## What each region is entered with -/

/-- The first region's modulated rows are the arguments'. -/
theorem vrow_eq (c : Dev nD) (b : Fin 2) (s : Fin 1024) : vrow (V1 m ρ) c b s = hrow (argX m c) (argSh m c) (argSc m c) b s := by
  have hsh : ∀ k : Fin 12288, V1 m ρ c main_v0 (ix3 b 0 k : S2x1x12288.Idx) = argSh m c b k := by
    intro k; rw [V1_v0]; unfold argSh; pointwise []
  have hsc : ∀ k : Fin 12288, V1 m ρ c main_v1 (ix3 b 0 k : S2x1x12288.Idx) = argSc m c b k := by
    intro k; rw [V1_v1]; unfold argSc; pointwise []
  have hx : V1 m ρ c main_arg0 = m ((c.tc : Thread nD τ).loc main_arg0) := W1_args m ρ c main_arg0 (by decide)
  unfold vrow hrow
  rw [hx]
  simp only [hsh, hsc]
  rfl

/-- The second region's codes are what the first region left. -/
theorem V3_codes (c : Dev nD) : V3 m ρ c main_v2_0 = codes (V1 m ρ) c :=
  (W3_of m ρ c main_v2_0 (by decide)).trans ((W2_arr m ρ c 3).trans (arr0_3 (V1 m ρ) c))

/-- The second region's token scales are what the first region left. -/
theorem V3_scales (c : Dev nD) : V3 m ρ c main_v2_1 = scales (V1 m ρ) c :=
  (W3_of m ρ c main_v2_1 (by decide)).trans ((W2_arr m ρ c 4).trans (arr0_4 (V1 m ρ) c))

/-- The second region's packed weights are the argument. -/
theorem V3_w (c : Dev nD) : V3 m ρ c main_arg4 = m ((c.tc : Thread nD τ).loc main_arg4) := W3_args m ρ c main_arg4 (by decide)

/-- The second region's weight scales are the argument with a unit axis inserted. -/
theorem V3_ws (c : Dev nD) : V3 m ρ c main_v3 = broadcastInDim S1x5120 ![1] bcast_S5120_S1x5120_1 (m ((c.tc : Thread nD τ).loc main_arg5)) := by
  have h : W2 m ρ c (Proc.devRef .tc main_arg5) = m ((c.tc : Thread nD τ).loc main_arg5) := W2_args m ρ c main_arg5 (by decide)
  rw [← h]
  simp only [V3, W3, hostOps1]; after_results_simp <;> rfl

/-- The second region's biases are the argument with a unit axis inserted. -/
theorem V3_bias (c : Dev nD) : V3 m ρ c main_v4 = broadcastInDim S1x5120 ![1] bcast_S5120_S1x5120_1 (m ((c.tc : Thread nD τ).loc main_arg6)) := by
  have h : W2 m ρ c (Proc.devRef .tc main_arg6) = m ((c.tc : Thread nD τ).loc main_arg6) := W2_args m ρ c main_arg6 (by decide)
  rw [← h]
  simp only [V3, W3, hostOps1]; after_results_simp <;> rfl

/-- The second region's gates are the argument with a unit axis inserted. -/
theorem V3_gate (c : Dev nD) : V3 m ρ c main_v5 = broadcastInDim S2x1x5120 ![0, 2] bcast_S2x5120_S2x1x5120_0_2 (m ((c.tc : Thread nD τ).loc main_arg3)) := by
  have h : W2 m ρ c (Proc.devRef .tc main_arg3) = m ((c.tc : Thread nD τ).loc main_arg3) := W2_args m ρ c main_arg3 (by decide)
  rw [← h]
  simp only [V3, W3, hostOps1]; after_results_simp <;> rfl

/-! ## The three results -/

/-- The codes' result, at an index. -/
theorem result_codes (c : Dev nD) (b : Fin 2) (s : Fin 1024) (k : Fin 12288) :
    W5 m ρ c (Proc.devRef .tc main_v2_0) (ix3 b s k : S2x1024x12288.Idx) = code (hrow (argX m c) (argSh m c) (argSc m c) b s) k := by
  have h : W5 m ρ c (Proc.devRef .tc main_v2_0) = codes (V1 m ρ) c :=
    (W5_of m ρ c main_v2_0 (by decide)).trans ((W4_of m ρ c main_v2_0 (by decide)).trans (V3_codes m ρ c))
  rw [h, ← vrow_eq m ρ]
  rfl

/-- The scales' result, at an index. -/
theorem result_scales (c : Dev nD) (b : Fin 2) (s : Fin 1024) :
    W5 m ρ c (Proc.devRef .tc main_v7) (ix2 b s : S2x1024.Idx) = rowScale (hrow (argX m c) (argSh m c) (argSc m c) b s) := by
  have h : W4 m ρ c (Proc.devRef .tc main_v2_1) = scales (V1 m ρ) c := (W4_of m ρ c main_v2_1 (by decide)).trans (V3_scales m ρ c)
  have h7 : W5 m ρ c (Proc.devRef .tc main_v7) = shapeCast S2x1024 (scales (V1 m ρ) c : Vec Ideal S2x1024x1 .f32) shapeCasts_S2x1024x1_S2x1024 := by
    rw [← h]
    simp only [W5, hostOps2]; after_results_simp <;> rfl
  rw [h7, ← vrow_eq m ρ]
  pointwise []
  rfl

/-- The output's result, at an index. -/
theorem result_out (c : Dev nD) (b : Fin 2) (s : Fin 1024) (n : Fin 5120) :
    W5 m ρ c (Proc.devRef .tc main_v6) (ix3 b s n : S2x1024x5120.Idx)
      = layer (argX m c) (argSh m c) (argSc m c) (argG m c) (argW m c) (argWs m c) (argB m c) b s n := by
  have h : W5 m ρ c (Proc.devRef .tc main_v6) = product (V3 m ρ) c :=
    (W5_of m ρ c main_v6 (by decide)).trans ((W4_arr m ρ c 6).trans (arr1_6 (V3 m ρ) c))
  have hws : V3 m ρ c main_v3 (ix2 0 n : S1x5120.Idx) = argWs m c n := by rw [V3_ws]; unfold argWs; pointwise []
  have hb : V3 m ρ c main_v4 (ix2 0 n : S1x5120.Idx) = argB m c n := by rw [V3_bias]; unfold argB; pointwise []
  have hg : V3 m ρ c main_v5 (ix3 b 0 n : S2x1x5120.Idx) = argG m c b n := by rw [V3_gate]; unfold argG; pointwise []
  have hc : ∀ k : Fin 12288, V3 m ρ c main_v2_0 (ix3 b s k : S2x1024x12288.Idx) = code (hrow (argX m c) (argSh m c) (argSc m c) b s) k := by
    intro k; rw [V3_codes, ← vrow_eq m ρ]; rfl
  have hs : V3 m ρ c main_v2_1 (ix3 b s 0 : S2x1024x1.Idx) = rowScale (hrow (argX m c) (argSh m c) (argSc m c) b s) := by
    rw [V3_scales, ← vrow_eq m ρ]; rfl
  have hw : ∀ (k : Fin 12288) (q : Fin 2560), V3 m ρ c main_arg4 (ix2 k q : S12288x2560.Idx) = argW m c k q := by
    intro k q; rw [V3_w]; rfl
  rw [h]
  show epilogue (dot (fun k => V3 m ρ c main_v2_0 (ix3 b s k : S2x1024x12288.Idx)) (fun k => nib n.val (V3 m ρ c main_arg4 (ix2 k (byteCol n) : S12288x2560.Idx))))
      (V3 m ρ c main_v2_1 (ix3 b s 0 : S2x1024x1.Idx)) (V3 m ρ c main_v3 (ix2 0 n : S1x5120.Idx)) (V3 m ρ c main_v4 (ix2 0 n : S1x5120.Idx))
      (V3 m ρ c main_v5 (ix3 b 0 n : S2x1x5120.Idx)) = _
  rw [hws, hb, hg, hs]
  simp only [hc, hw]
  rfl

end Cert.KernelIdeal.Val
-- ==== Proof.Ref.lean ====
/-
  The reference program's values read into the layer's mathematics (`Spec`): its modulated rows, their largest absolute
  values and scales, each an element of the chain the program's operations write.
-/
module

public import proofs.«01_k».proof.Proof.Spec
public import proofs.«01_k».proof.Proof.Gen.ReferenceIdeal.Read

@[expose] public section

set_option maxRecDepth 16384

noncomputable section

namespace Cert.ReferenceIdeal.Val

open Cert.ReferenceIdeal Cert.ReferenceIdeal.Gen Cert.ReferenceIdeal.Read
open Idealize.ShloMosaic Idealize.ShloMosaic.StableHlo
open Cert.Spec

/-- A three-axis array of the activations' shape, by coordinates. -/
def rows (x : (⟨S2x1024x12288, .bf16⟩ : BufTy).Contents (Elt Ideal)) (b : Fin 2) (s : Fin 1024) : Row := fun k => x (ix3 b s k : S2x1024x12288.Idx)
/-- A per-batch row of modulation, by coordinates. -/
def mods (x : (⟨S2x12288, .bf16⟩ : BufTy).Contents (Elt Ideal)) (b : Fin 2) : Row := fun k => x (ix2 b k : S2x12288.Idx)

variable (x0 : (⟨S2x1024x12288, .bf16⟩ : BufTy).Contents (Elt Ideal)) (x1 x2 : (⟨S2x12288, .bf16⟩ : BufTy).Contents (Elt Ideal))
variable (b : Fin 2) (s : Fin 1024) (k : Fin 12288)

/-- The mean of a row. -/
theorem mean_eq (z : Fin 1) : val_main_v4 (F := Ideal) x0 (ix3 b s z : S2x1024x1.Idx) = mean (rows x0 b s) := by
  pointwise [val_main_v4, val_main_v3, val_main_cst_0, val_main_v2, val_main_v1, val_main_v0, val_main_cst]
  rfl

/-- A deviation from the mean. -/
theorem dev_eq : val_main_v6 (F := Ideal) x0 (ix3 b s k : S2x1024x12288.Idx) = dev (rows x0 b s) k := by
  have h := mean_eq x0 b s 0
  unfold val_main_v6 val_main_v5 dev
  rw [← h]
  generalize val_main_v4 (F := Ideal) x0 = y
  pointwise [val_main_v0]
  rfl

/-- The variance of a row. -/
theorem var_eq (z : Fin 1) : val_main_v11 (F := Ideal) x0 (ix3 b s z : S2x1024x1.Idx) = var (rows x0 b s) := by
  have h := fun k => dev_eq x0 b s k
  unfold val_main_v11 val_main_v9 val_main_v8 val_main_v7 var
  simp only [← h]
  generalize val_main_v6 (F := Ideal) x0 = y
  pointwise [val_main_v10, val_main_cst_2, val_main_cst_1]

/-- The modulated rows. -/
theorem h_eq : val_main_v26 (F := Ideal) x0 x1 x2 (ix3 b s k : S2x1024x12288.Idx) = hrow (rows x0) (mods x1) (mods x2) b s k := by
  have h := dev_eq x0 b s k
  have h' := var_eq x0 b s 0
  unfold val_main_v26 val_main_v22 val_main_v16 val_main_v15 val_main_v14 val_main_v13 hrow modulated
  rw [← h, ← h']
  generalize val_main_v6 (F := Ideal) x0 = y
  generalize val_main_v11 (F := Ideal) x0 = v
  pointwise [val_main_v25, val_main_v24, val_main_v23, val_main_v21, val_main_v20, val_main_v19, val_main_cst_4, val_main_v18,
    val_main_v17, val_main_v12, val_main_cst_3]
  rfl

/-- The largest absolute value of a modulated row. -/
theorem amax_eq : val_main_v28 (F := Ideal) x0 x1 x2 (ix2 b s : S2x1024.Idx) = amax (hrow (rows x0) (mods x1) (mods x2) b s) := by
  have h := fun k => h_eq x0 x1 x2 b s k
  unfold val_main_v28 val_main_v27 amax
  simp only [← h]
  generalize val_main_v26 (F := Ideal) x0 x1 x2 = y
  pointwise [val_main_cst_5]
  rfl

/-- The scale of a row of zeros. -/
theorem one_eq (i : S2x1024.Idx) : val_main_call0_v1 (F := Ideal) i = (1 : EReal) := by
  rw [val_main_call0_v1_apply, val_main_call0_v0_apply, val_main_cst_8_apply, Ideal.ofBits_def]
  exact Ideal.ofBits_one_f32

/-- The bound a row's largest absolute value is compared with. -/
theorem zero_eq (i : S2x1024.Idx) : val_main_v29 (F := Ideal) i = (0 : EReal) := by
  rw [val_main_v29_apply, val_main_cst_6_apply, Ideal.ofBits_def]
  exact Ideal.ofBits_zero_f32

/-- The divisor of a row's largest absolute value. -/
theorem n127_eq (i : S2x1024.Idx) : val_main_v31 (F := Ideal) i = Ideal.ofBits .f32 0x42FE0000#32 := by
  rw [val_main_v31_apply, val_main_cst_7_apply, Ideal.ofBits_def]

/-- A choice by an ordered comparison with zero. -/
theorem select_pos (a q e : EReal) : Scalar.select (FloatOps.cmpf (F := Ideal) (φ := .f32) .ogt a (0 : EReal)) q e = if 0 < a then q else e := by
  pointwise []

/-- The scale of a modulated row. -/
theorem scale_eq : val_main_v33 (F := Ideal) x0 x1 x2 (ix2 b s : S2x1024.Idx) = rowScale (hrow (rows x0) (mods x1) (mods x2) b s) := by
  rw [val_main_v33_apply, val_main_v30_apply, val_main_v32_apply, one_eq, zero_eq, n127_eq, amax_eq, Ideal.hostDivf_def]
  exact select_pos _ _ _

/-- An element over its row's scale. -/
theorem quotient_eq : val_main_v36 (F := Ideal) x0 x1 x2 (ix3 b s k : S2x1024x12288.Idx)
    = Ideal.div (hrow (rows x0) (mods x1) (mods x2) b s k) (rowScale (hrow (rows x0) (mods x1) (mods x2) b s)) := by
  rw [val_main_v36_apply, h_eq, val_main_v35_apply, val_main_v34_apply, show idx_main_v34 (idx_main_v35 (ix3 b s k)) = ix2 b s from eq_ix2 _, scale_eq,
    Ideal.hostDivf_def]

/-- The clipped value an element's code is taken from. -/
theorem clipped_eq : val_main_v38 (F := Ideal) x0 x1 x2 (ix3 b s k : S2x1024x12288.Idx) = clipped (hrow (rows x0) (mods x1) (mods x2) b s) k := by
  rw [val_main_v38_apply, val_main_call2_v4_apply, val_main_call2_v3_apply, val_main_cst_10_apply, val_main_call2_v2_apply, val_main_call2_v1_apply,
    val_main_call2_v0_apply, val_main_cst_9_apply, val_main_v37_apply, quotient_eq, Ideal.minimumf_def, Ideal.maximumf_def, Ideal.hostUnary_roundeven_def,
    Ideal.ofBits_def, Ideal.ofBits_def]
  unfold clipped
  rfl

/-! ## The codes -/

/-- The upper bound of the clip. -/
theorem ofBits_127 : Ideal.ofBits .f32 0x42FE0000#32 = ((127 : ℝ) : EReal) := by
  simp [Ideal.ofBits, Ideal.ieee, -EReal.coe_mul]; norm_num

/-- The lower bound of the clip. -/
theorem ofBits_neg127 : Ideal.ofBits .f32 0xC2FE0000#32 = ((-127 : ℝ) : EReal) := by
  simp [Ideal.ofBits, Ideal.ieee, -EReal.coe_mul]; norm_num

/-- A word of a small integer, narrowed, is the byte of that integer. -/
theorem setWidth_small (t : Int) (h : -127 ≤ t) (h' : t ≤ 127) : (BitVec.ofInt 32 t).setWidth 8 = BitVec.ofInt 8 t := by
  interval_cases t <;> rfl

/-- The conversion to a byte of a value in a byte's symmetric range is its conversion to a word, narrowed. -/
theorem narrow_code (x : EReal) (h : ((-127 : ℝ) : EReal) ≤ x) (h' : x ≤ ((127 : ℝ) : EReal)) : (Ideal.fptosi 32 x).setWidth 8 = Ideal.fptosi 8 x := by
  induction x with
  | bot => simp at h
  | top => simp at h'
  | coe r =>
    have h1 : (-127:ℝ) ≤ r := by exact_mod_cast h
    have h2 : r ≤ (127:ℝ) := by exact_mod_cast h'
    have hl : -127 ≤ (if 0 ≤ r then ⌊r⌋ else ⌈r⌉) := by
      split
      · exact Int.le_floor.mpr (by push_cast; linarith)
      · exact Int.le_ceil_iff.mpr (by push_cast; linarith)
    have hu : (if 0 ≤ r then ⌊r⌋ else ⌈r⌉) ≤ 127 := by
      split
      · exact Int.le_of_lt_add_one (Int.floor_lt.mpr (by push_cast; linarith))
      · exact Int.ceil_le.mpr (by push_cast; linarith)
    unfold Ideal.fptosi
    rw [Ideal.toIntClamped_coe, Ideal.toIntClamped_coe]
    generalize (if 0 ≤ r then ⌊r⌋ else ⌈r⌉) = t at hl hu
    rw [max_eq_right (by norm_num; omega), max_eq_right (by norm_num; omega), min_eq_right (by norm_num; omega), min_eq_right (by norm_num; omega)]
    exact setWidth_small t hl hu

/-- A clipped value lies in the symmetric range. -/
theorem clipped_range (h : Row) (k : Fin 12288) : ((-127 : ℝ) : EReal) ≤ clipped h k ∧ clipped h k ≤ ((127 : ℝ) : EReal) := by
  unfold clipped
  rw [ofBits_127, ofBits_neg127]
  exact ⟨le_min (EReal.coe_le_coe_iff.mpr (by norm_num)) (le_max_left _ _), min_le_left _ _⟩

/-- The codes. -/
theorem code_eq : val_main_v40 (F := Ideal) x0 x1 x2 (ix3 b s k : S2x1024x12288.Idx) = code (hrow (rows x0) (mods x1) (mods x2) b s) k := by
  rw [val_main_v40_apply, val_main_v39_apply, clipped_eq]
  unfold code
  have hr := clipped_range (hrow (rows x0) (mods x1) (mods x2) b s) k
  generalize clipped (hrow (rows x0) (mods x1) (mods x2) b s) k = y at hr ⊢
  exact narrow_code y hr.1 hr.2

end Cert.ReferenceIdeal.Val
-- ==== Proof.RefOut.lean ====
/-
  The reference program's output read into the layer's mathematics (`Spec`): the weights' nibbles unpacked, the two
  products, the interleave of their columns, and the epilogue.
-/
module

public import proofs.«01_k».proof.Proof.Ref

@[expose] public section

set_option maxRecDepth 16384

noncomputable section

namespace Cert.ReferenceIdeal.Val

open Cert.ReferenceIdeal Cert.ReferenceIdeal.Gen Cert.ReferenceIdeal.Read
open Idealize.ShloMosaic Idealize.ShloMosaic.StableHlo
open Cert.Spec

variable (x0 : (⟨S2x1024x12288, .bf16⟩ : BufTy).Contents (Elt Ideal)) (x1 x2 : (⟨S2x12288, .bf16⟩ : BufTy).Contents (Elt Ideal))
variable (x3 : (⟨S2x5120, .bf16⟩ : BufTy).Contents (Elt Ideal)) (x4 : (⟨S12288x2560, .i8⟩ : BufTy).Contents (Elt Ideal))
variable (x5 : (⟨S5120, .f32⟩ : BufTy).Contents (Elt Ideal)) (x6 : (⟨S5120, .bf16⟩ : BufTy).Contents (Elt Ideal))
variable (b : Fin 2) (s : Fin 1024) (k : Fin 12288) (q : Fin 2560) (n : Fin 5120)

/-- The packed weights, by coordinates. -/
def packed (k : Fin 12288) (q : Fin 2560) : BitVec 8 := x4 (ix2 k q : S12288x2560.Idx)
/-- The gates, by coordinates. -/
def gates (b : Fin 2) (n : Fin 5120) : EReal := x3 (ix2 b n : S2x5120.Idx)
/-- The weight scales, by coordinates. -/
def wscales (n : Fin 5120) : EReal := x5 (ix1 n : S5120.Idx)
/-- The biases, by coordinates. -/
def biases (n : Fin 5120) : EReal := x6 (ix1 n : S5120.Idx)

/-! ## The operands of the products -/

/-- A code's value is unchanged by widening. -/
theorem ival_signExtend (c : BitVec 8) : ival (c.signExtend 32) = ival c := by
  unfold ival
  rw [BitVec.toInt_signExtend_of_le (by decide)]

/-- The left operand: the codes' values. -/
theorem left_eq : val_main_v42 (F := Ideal) x0 x1 x2 (ix3 b s k : S2x1024x12288.Idx) = ival (code (hrow (rows x0) (mods x1) (mods x2) b s) k) := by
  rw [val_main_v42_apply, val_main_v41_apply, code_eq]
  exact ival_signExtend _

/-- A nibble in the low bits of a word as a signed byte: eight and more have sixteen taken off. -/
def signedNibble (v : BitVec 32) : BitVec 8 :=
  (Scalar.select (IntOp.cmpi .sge ((v.setWidth 8).signExtend 32) 8#32) (IntOp.subi ((v.setWidth 8).signExtend 32) 16#32)
    ((v.setWidth 8).signExtend 32)).setWidth 8

/-- Masking a byte's low nibble and taking sixteen off a large one is its sign extension. -/
theorem lo_select (b : BitVec 8) : (signedNibble (IntOp.andi (b.setWidth 32) 15#32)).signExtend 32 = lo b := by
  have h : ∀ i : Fin 256, (signedNibble (IntOp.andi ((BitVec.ofFin (w := 8) i).setWidth 32) 15#32)).signExtend 32
      = lo (BitVec.ofFin (w := 8) i) := by decide +kernel
  exact h b.toFin

/-- Shifting a byte's high nibble down and taking sixteen off a large one is its sign extension. -/
theorem hi_select (b : BitVec 8) : (signedNibble (IntOp.shrsi .host (b.setWidth 32) 4#32)).signExtend 32 = hi b := by
  have h : ∀ i : Fin 256, (signedNibble (IntOp.shrsi .host ((BitVec.ofFin (w := 8) i).setWidth 32) 4#32)).signExtend 32
      = hi (BitVec.ofFin (w := 8) i) := by decide +kernel
  exact h b.toFin

/-- The low nibbles as signed bytes. -/
theorem nibbleLo_eq : val_main_v53 (F := Ideal) x4 (ix2 k q : S12288x2560.Idx) = signedNibble (IntOp.andi ((packed x4 k q).setWidth 32) 15#32) := by
  rw [val_main_v53_apply, val_main_v52_apply, val_main_v51_apply, val_main_v50_apply, val_main_c_12_apply, val_main_v49_apply, val_main_v48_apply,
    val_main_c_11_apply, val_main_v47_apply, val_main_v46_apply, val_main_v45_apply, val_main_v44_apply, val_main_c_apply, val_main_v43_apply]
  rfl

/-- The high nibbles as signed bytes. -/
theorem nibbleHi_eq : val_main_v65 (F := Ideal) x4 (ix2 k q : S12288x2560.Idx) = signedNibble (IntOp.shrsi .host ((packed x4 k q).setWidth 32) 4#32) := by
  rw [val_main_v65_apply, val_main_v64_apply, val_main_v63_apply, val_main_v62_apply, val_main_c_15_apply, val_main_v61_apply, val_main_v60_apply,
    val_main_c_14_apply, val_main_v59_apply, val_main_v58_apply, val_main_v57_apply, val_main_v56_apply, val_main_c_13_apply, val_main_v43_apply]
  rfl

/-- The even columns' weights: the low nibbles' values. -/
theorem even_eq : val_main_v55 (F := Ideal) x4 (ix2 k q : S12288x2560.Idx) = ival (lo (packed x4 k q)) := by
  rw [val_main_v55_apply, val_main_v54_apply, nibbleLo_eq, lo_select]
  rfl

/-- The odd columns' weights: the high nibbles' values. -/
theorem odd_eq : val_main_v67 (F := Ideal) x4 (ix2 k q : S12288x2560.Idx) = ival (hi (packed x4 k q)) := by
  rw [val_main_v67_apply, val_main_v66_apply, nibbleHi_eq, hi_select]
  rfl

/-! ## The products -/

/-- The even columns' product. -/
theorem dotEven_eq : val_main_v68 (F := Ideal) x0 x1 x2 x4 (ix3 b s q : S2x1024x2560.Idx)
    = dot (code (hrow (rows x0) (mods x1) (mods x2) b s)) (fun k => lo (packed x4 k q)) := by
  rw [val_main_v68_apply]
  refine Finset.sum_congr rfl fun k _ => ?_
  rw [show lidx_main_v68 (ix3 b s q) k = ix3 b s k from eq_ix3 _, show ridx_main_v68 (ix3 b s q) k = ix2 k q from eq_ix2 _, left_eq, even_eq]

/-- The odd columns' product. -/
theorem dotOdd_eq : val_main_v69 (F := Ideal) x0 x1 x2 x4 (ix3 b s q : S2x1024x2560.Idx)
    = dot (code (hrow (rows x0) (mods x1) (mods x2) b s)) (fun k => hi (packed x4 k q)) := by
  rw [val_main_v69_apply]
  refine Finset.sum_congr rfl fun k _ => ?_
  rw [show lidx_main_v69 (ix3 b s q) k = ix3 b s k from eq_ix3 _, show ridx_main_v69 (ix3 b s q) k = ix2 k q from eq_ix2 _, left_eq, odd_eq]

/-- Two arrays side by side on a last axis of two: the first at coordinate zero. -/
theorem pair_left (y y' : Vec Ideal S2x1024x2560x1 .f32) :
    concatenate S2x1024x2560x2 3 [⟨S2x1024x2560x1, y⟩, ⟨S2x1024x2560x1, y'⟩] concatenates_S2x1024x2560x1_S2x1024x2560x1_S2x1024x2560x2_d3 (ix4 b s q 0)
      = y (ix4 b s q 0) := by
  pointwise []

/-- Two arrays side by side on a last axis of two: the second at coordinate one. -/
theorem pair_right (y y' : Vec Ideal S2x1024x2560x1 .f32) :
    concatenate S2x1024x2560x2 3 [⟨S2x1024x2560x1, y⟩, ⟨S2x1024x2560x1, y'⟩] concatenates_S2x1024x2560x1_S2x1024x2560x1_S2x1024x2560x2_d3 (ix4 b s q 1)
      = y' (ix4 b s q 0) := by
  pointwise []

/-- The interleaved columns: column `n` comes from byte `n / 2`, its low nibble's product when `n` is even. -/
theorem interleave_idx (t : Fin 2) (ht : n.val % 2 = t.val) : idx_main_v73 (ix3 b s n) = ix4 b s (byteCol n) t := by
  have hb := b.isLt; have hs := s.isLt; have hn := n.isLt
  have h0 : (idx_main_v73 (ix3 b s n) 0).val = b.val := by
    show ((b.val * 1024 + s.val) * 5120 + n.val) / 5242880 = b.val; omega
  have h1 : (idx_main_v73 (ix3 b s n) 1).val = s.val := by
    show ((b.val * 1024 + s.val) * 5120 + n.val) / 5120 % 1024 = s.val; omega
  have h2 : (idx_main_v73 (ix3 b s n) 2).val = (byteCol n).val := by
    show ((b.val * 1024 + s.val) * 5120 + n.val) / 2 % 2560 = n.val / 2; omega
  have h3 : (idx_main_v73 (ix3 b s n) 3).val = t.val := by
    show ((b.val * 1024 + s.val) * 5120 + n.val) % 2 = t.val; omega
  funext a
  match a with
  | ⟨0, _⟩ => exact Fin.ext h0
  | ⟨1, _⟩ => exact Fin.ext h1
  | ⟨2, _⟩ => exact Fin.ext h2
  | ⟨3, _⟩ => exact Fin.ext h3

/-- The interleaved product, at an output column. -/
theorem dot_eq : val_main_v73 (F := Ideal) x0 x1 x2 x4 (ix3 b s n : S2x1024x5120.Idx)
    = dot (code (hrow (rows x0) (mods x1) (mods x2) b s)) (fun k => nib n.val (packed x4 k (byteCol n))) := by
  rw [val_main_v73_apply]
  unfold val_main_v72 nib
  rcases Nat.mod_two_eq_zero_or_one n.val with h | h
  · rw [interleave_idx b s n 0 h, pair_left, val_main_v70_apply, show idx_main_v70 (ix4 b s (byteCol n) 0) = ix3 b s (byteCol n) from eq_ix3 _, dotEven_eq]
    simp only [h, if_pos]
  · rw [interleave_idx b s n 1 h, pair_right, val_main_v71_apply, show idx_main_v71 (ix4 b s (byteCol n) 0) = ix3 b s (byteCol n) from eq_ix3 _, dotOdd_eq]
    simp only [h, one_ne_zero, if_false]

/-! ## The output -/

/-- The output, at an index. -/
theorem out_eq : val_main_v88 (F := Ideal) x0 x1 x2 x3 x4 x5 x6 (ix3 b s n : S2x1024x5120.Idx)
    = layer (rows x0) (mods x1) (mods x2) (gates x3) (packed x4) (wscales x5) (biases x6) b s n := by
  rw [val_main_v88_apply, val_main_v87_apply, val_main_v83_apply, val_main_v79_apply, val_main_v76_apply, dot_eq,
    val_main_v75_apply, val_main_v74_apply, show idx_main_v74 (idx_main_v75 (ix3 b s n)) = ix2 b s from eq_ix2 _, scale_eq,
    val_main_v78_apply, val_main_v77_apply, show idx_main_v77 (idx_main_v78 (ix3 b s n)) = ix1 n from eq_ix1 _,
    val_main_v82_apply, val_main_v81_apply, val_main_v80_apply, show idx_main_v81 (idx_main_v82 (ix3 b s n)) = ix1 n from eq_ix1 _,
    val_main_v86_apply, val_main_v85_apply, val_main_v84_apply, show idx_main_v85 (idx_main_v86 (ix3 b s n)) = ix2 b n from eq_ix2 _,
    Ideal.truncf_def, Ideal.mulf_def, Ideal.mulf_def, Ideal.mulf_def, Ideal.addf_def, Ideal.extf_def, Ideal.extf_def]
  unfold layer epilogue
  rfl

end Cert.ReferenceIdeal.Val
-- ==== Proof.Algebraic.lean ====
/-
  The value claim at the extended reals: both programs' results are the layer's mathematics (`Spec`) of the arguments.
-/
module

public import proofs.«01_k».proof.Defs
public import proofs.«01_k».proof.Proof.KVal
public import proofs.«01_k».proof.Proof.RefOut

@[expose] public section

set_option maxRecDepth 16384

noncomputable section

namespace Cert.Proof

open Idealize.ShloMosaic Idealize.SL.Sem
open Cert.Spec

section
variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)
  (h0 : m' ((c.tc : Thread ReferenceIdeal.nD ReferenceIdeal.τ).loc ReferenceIdeal.main_arg0) = m ((c.tc : Thread KernelIdeal.nD KernelIdeal.τ).loc KernelIdeal.main_arg0))
  (h1 : m' ((c.tc : Thread ReferenceIdeal.nD ReferenceIdeal.τ).loc ReferenceIdeal.main_arg1) = m ((c.tc : Thread KernelIdeal.nD KernelIdeal.τ).loc KernelIdeal.main_arg1))
  (h2 : m' ((c.tc : Thread ReferenceIdeal.nD ReferenceIdeal.τ).loc ReferenceIdeal.main_arg2) = m ((c.tc : Thread KernelIdeal.nD KernelIdeal.τ).loc KernelIdeal.main_arg2))
  (h3 : m' ((c.tc : Thread ReferenceIdeal.nD ReferenceIdeal.τ).loc ReferenceIdeal.main_arg3) = m ((c.tc : Thread KernelIdeal.nD KernelIdeal.τ).loc KernelIdeal.main_arg3))
  (h4 : m' ((c.tc : Thread ReferenceIdeal.nD ReferenceIdeal.τ).loc ReferenceIdeal.main_arg4) = m ((c.tc : Thread KernelIdeal.nD KernelIdeal.τ).loc KernelIdeal.main_arg4))
  (h5 : m' ((c.tc : Thread ReferenceIdeal.nD ReferenceIdeal.τ).loc ReferenceIdeal.main_arg5) = m ((c.tc : Thread KernelIdeal.nD KernelIdeal.τ).loc KernelIdeal.main_arg5))
  (h6 : m' ((c.tc : Thread ReferenceIdeal.nD ReferenceIdeal.τ).loc ReferenceIdeal.main_arg6) = m ((c.tc : Thread KernelIdeal.nD KernelIdeal.τ).loc KernelIdeal.main_arg6))

include h0 h1 h2 in
/-- The reference's codes are the kernel's. -/
theorem codes_agree : ReferenceIdeal.Value.res_main_v40 m' c
    = KernelIdeal.Gen.W5 m ρ c (Proc.devRef .tc KernelIdeal.main_v2_0) := by
  rw [ReferenceIdeal.Read.val_main_v40_eq, h0, h1, h2]
  funext i
  rw [eq_ix3 i]
  exact (ReferenceIdeal.Val.code_eq _ _ _ (i 0) (i 1) (i 2)).trans (KernelIdeal.Val.result_codes m ρ c (i 0) (i 1) (i 2)).symm

include h0 h1 h2 in
/-- The reference's scales are the kernel's. -/
theorem scales_agree : ReferenceIdeal.Value.res_main_v33 m' c
    = KernelIdeal.Gen.W5 m ρ c (Proc.devRef .tc KernelIdeal.main_v7) := by
  rw [ReferenceIdeal.Read.val_main_v33_eq, h0, h1, h2]
  funext i
  rw [eq_ix2 i]
  exact (ReferenceIdeal.Val.scale_eq _ _ _ (i 0) (i 1)).trans (KernelIdeal.Val.result_scales m ρ c (i 0) (i 1)).symm

include h0 h1 h2 h3 h4 h5 h6 in
/-- The reference's output is the kernel's. -/
theorem out_agree : ReferenceIdeal.Value.res_main_v88 m' c
    = KernelIdeal.Gen.W5 m ρ c (Proc.devRef .tc KernelIdeal.main_v6) := by
  rw [ReferenceIdeal.Read.val_main_v88_eq, h0, h1, h2, h3, h4, h5, h6]
  funext i
  rw [eq_ix3 i]
  exact (ReferenceIdeal.Val.out_eq _ _ _ _ _ _ _ (i 0) (i 1) (i 2)).trans (KernelIdeal.Val.result_out m ρ c (i 0) (i 1) (i 2)).symm
end

/-- The idealized kernel and the idealized reference, from memories agreeing on the arguments, end with equal results. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨_, _, _, Cert.KernelIdeal.Val.value_run (F := Ideal) m ρ, ?_⟩
  refine (θ_run Cert.ReferenceIdeal.defs _ _).mono (fun _ h c => ?_) (Cert.ReferenceIdeal.Value.run (F := Ideal) m' ρ')
  obtain ⟨h0, h1, h2, h3, h4, h5, h6⟩ := hagree c
  obtain ⟨hv83, hv40, hv33, hargs⟩ := h c
  exact ⟨hv83.trans (out_agree m ρ m' c h0 h1 h2 h3 h4 h5 h6), hv40.trans (codes_agree m ρ m' c h0 h1 h2),
    hv33.trans (scales_agree m ρ m' c h0 h1 h2), hargs⟩

/-- The idealized reference runs, its arguments unchanged, and it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
